-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .bf16 := Host.absf main_arg2
  let main_cst_2 : FVec F S_ .bf16 := constant S_ .bf16 0x7F80#16
  let main_v10 : FVec F S2x128x4x64 .bf16 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x512x512 : Shape := ⟨3, ![2, 512, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x512x4x64 : S_.BroadcastsInDim S2x512x4x64 (![] : Fin 0 → Fin S2x512x4x64.rank)
  reducesTo_S2x512x4x64_S_d0_1_2_3 : S2x512x4x64.ReducesTo [0, 1, 2, 3] S_

variable [Facts]

def fn {F : FTy → Type} [FloatOps F] (main_arg0 : FVec F S2x512x512 .bf16) (main_arg1 : FVec F S512x256 .bf16) (main_arg2 : FVec F S2x512x4x64 .bf16) (main_arg3 : FVec F S2x512x4x64 .bf16) (main_arg4 : FVec F S256x512 .bf16) : IVec S_ 1 :=
  let main_v0 : FVec F S2x512x512 .bf16 := Host.absf main_arg0
  let main_cst : FVec F S_ .bf16 := constant S_ .bf16 0x7F80#16
  let main_v1 : FVec F S2x512x512 .bf16 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x512x4x64 .bf16 := Host.absf main_arg2
  let main_cst_2 : FVec F S_ .bf16 := constant S_ .bf16 0x7F80#16
  let main_v10 : FVec F S2x512x4x64 .bf16 := broadcastInDim S2x512x4x64 ![] bcast_S_S2x512x4x64 main_cst_2
  let main_v11 : IVec S2x512x4x64 1 := cmpf .olt main_v9 main_v10
  let main_c_3 : IVec S_ 1 := constantI S_ 1 1#1
  let main_v12 : IVec S_ 1 := (fun x v => Host.reduce IntOp.andi x v reducesTo_S2x512x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x2x128x512 : Shape := ⟨4, ![2, 2, 128, 512]⟩
abbrev S_ : Shape := ⟨0, ![]⟩
abbrev S1x128x4x64 : Shape := ⟨4, ![1, 128, 4, 64]⟩
abbrev S128x4x64 : Shape := ⟨3, ![128, 4, 64]⟩
abbrev S128x256 : Shape := ⟨2, ![128, 256]⟩
abbrev S1x1x128x256 : Shape := ⟨4, ![1, 1, 128, 256]⟩
abbrev S1x2x128x512 : Shape := ⟨4, ![1, 2, 128, 512]⟩
abbrev S256x256 : Shape := ⟨2, ![256, 256]⟩
abbrev S128x64 : Shape := ⟨2, ![128, 64]⟩
abbrev S2x1x128x64 : Shape := ⟨4, ![2, 1, 128, 64]⟩
abbrev S2x128x64 : Shape := ⟨3, ![2, 128, 64]⟩
abbrev S256x64 : Shape := ⟨2, ![256, 64]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S2x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_35 : BitVec 32 := 1#32
  let v39 : BitVec 32 := Scalar.muli v13 c1_i32_35
  let v40 : BitVec 32 := Scalar.addi c0_i32_36 v39
  v40.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_40 : BitVec 32 := 1#32
  let v41 : BitVec 32 := Scalar.muli v13 c1_i32_40
  let v42 : BitVec 32 := Scalar.addi c0_i32_41 v41
  v42.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x512 : Shape := ⟨3, ![2, 512, 512]⟩
abbrev S512x256 : Shape := ⟨2, ![512, 256]⟩
abbrev S2x512x4x64 : Shape := ⟨4, ![2, 512, 4, 64]⟩
abbrev S256x512 : Shape := ⟨2, ![256, 512]⟩
abbrev S2x512x256 : Shape := ⟨3, ![2, 512, 256]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x4x512x512 : Shape := ⟨4, ![2, 4, 512, 512]⟩
abbrev S1x1x512x512 : Shape := ⟨4, ![1, 1, 512, 512]⟩
abbrev S2x4x512 : Shape := ⟨3, ![2, 4, 512]⟩
abbrev S2x4x512x1 : Shape := ⟨4, ![2, 4, 512, 1]⟩
abbrev S1x1x512x1 : Shape := ⟨4, ![1, 1, 512, 1]⟩
abbrev S2x4x64x512 : Shape := ⟨4, ![2, 4, 64, 512]⟩

abbrev nBuf : Space → Nat
  | .hbm => 146
  | .vmem => 0
  | .smem => 0
  | _ => 0

abbrev hbmTy0_0 (i : Nat) : BufTy := match i % 128 with
  | 0 => ⟨S2x512x512, .bf16⟩
  | 1 => ⟨S512x256, .bf16⟩
  | 2 => ⟨S2x512x4x64, .bf16⟩
  | 3 => ⟨S2x512x4x64, .bf16⟩
  | 4 => ⟨S256x512, .bf16⟩
  | 5 => ⟨S2x512x512, .f32⟩
  | 6 => ⟨S512x256, .f32⟩
  | 7 => ⟨S2x512x256, .f32⟩
  | 8 => ⟨S2x512x256, .bf16⟩
  | 9 => ⟨S2x512x4x64, .bf16⟩
  | 10 => ⟨S512, .i32⟩
  | 11 => ⟨S_, .i32⟩
  | 12 => ⟨S_, .i32⟩
  | 13 => ⟨S512, .i32⟩
  | 14 => ⟨S512, .i32⟩
  | 15 => ⟨S512, .i32⟩
  | 16 => ⟨S_, .i32⟩
  | 17 => ⟨S512, .i32⟩
  | 18 => ⟨S512, .i1⟩
  | 19 => ⟨S512, .i32⟩
  | 20 => ⟨S512, .i32⟩
  | 21 => ⟨S_, .i32⟩
  | 22 => ⟨S512, .i32⟩
  | 23 => ⟨S512, .i1⟩
  | 24 => ⟨S512, .i1⟩
  | 25 => ⟨S_, .i32⟩
  | 26 => ⟨S512, .i32⟩
  | 27 => ⟨S512, .i32⟩
  | 28 => ⟨S512, .i32⟩
  | 29 => ⟨S512x1, .i32⟩
  | 30 => ⟨S512, .i32⟩
  | 31 => ⟨S_, .i32⟩
  | 32 => ⟨S_, .i32⟩
  | 33 => ⟨S512, .i32⟩
  | 34 => ⟨S512, .i32⟩
  | 35 => ⟨S512, .i32⟩
  | 36 => ⟨S_, .i32⟩
  | 37 => ⟨S512, .i32⟩
  | 38 => ⟨S512, .i1⟩
  | 39 => ⟨S512, .i32⟩
  | 40 => ⟨S512, .i32⟩
  | 41 => ⟨S_, .i32⟩
  | 42 => ⟨S512, .i32⟩
  | 43 => ⟨S512, .i1⟩
  | 44 => ⟨S512, .i1⟩
  | 45 => ⟨S_, .i32⟩
  | 46 => ⟨S512, .i32⟩
  | 47 => ⟨S512, .i32⟩
  | 48 => ⟨S512, .i32⟩
  | 49 => ⟨S1x512, .i32⟩
  | 50 => ⟨S512x512, .i32⟩
  | 51 => ⟨S512x512, .i32⟩
  | 52 => ⟨S512x512, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1x512, .i32⟩
  | 60 => ⟨S1x512, .i32⟩
  | 61 => ⟨S_, .i32⟩
  | 62 => ⟨S1x512, .i32⟩
  | 63 => ⟨S1x512, .i1⟩
  | 64 => ⟨S_, .i32⟩
  | 65 => ⟨S1x512, .i32⟩
  | 66 => ⟨S1x512, .i1⟩
  | 67 => ⟨S_, .i32⟩
  | 68 => ⟨S_, .i1⟩
  | 69 => ⟨S1x512, .i1⟩
  | 70 => ⟨S1x512, .i1⟩
  | 71 => ⟨S1x512, .i1⟩
  | 72 => ⟨S1x512, .i32⟩
  | 73 => ⟨S1x512, .i32⟩
  | 74 => ⟨S1x512, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S512x1, .i32⟩
  | 82 => ⟨S512x1, .i32⟩
  | 83 => ⟨S_, .i32⟩
  | 84 => ⟨S512x1, .i32⟩
  | 85 => ⟨S512x1, .i1⟩
  | 86 => ⟨S_, .i32⟩
  | 87 => ⟨S512x1, .i32⟩
  | 88 => ⟨S512x1, .i1⟩
  | 89 => ⟨S_, .i32⟩
  | 90 => ⟨S_, .i1⟩
  | 91 => ⟨S512x1, .i1⟩
  | 92 => ⟨S512x1, .i1⟩
  | 93 => ⟨S512x1, .i1⟩
  | 94 => ⟨S512x1, .i32⟩
  | 95 => ⟨S512x1, .i32⟩
  | 96 => ⟨S512x1, .i32⟩
  | 97 => ⟨S512x512, .i32⟩
  | 98 => ⟨S512x512, .i32⟩
  | 99 => ⟨S512x512, .i1⟩
  | 100 => ⟨S512x512, .i1⟩
  | 101 => ⟨S2x512x4x64, .f32⟩
  | 102 => ⟨S2x512x4x64, .f32⟩
  | 103 => ⟨S2x4x512x512, .f32⟩
  | 104 => ⟨S2x4x512x512, .bf16⟩
  | 105 => ⟨S2x4x512x512, .f32⟩
  | 106 => ⟨S_, .f32⟩
  | 107 => ⟨S2x4x512x512, .f32⟩
  | 108 => ⟨S2x4x512x512, .f32⟩
  | 109 => ⟨S1x1x512x512, .i1⟩
  | 110 => ⟨S_, .f32⟩
  | 111 => ⟨S_, .f32⟩
  | 112 => ⟨S2x4x512x512, .i1⟩
  | 113 => ⟨S2x4x512x512, .f32⟩
  | 114 => ⟨S2x4x512x512, .f32⟩
  | 115 => ⟨S_, .f32⟩
  | 116 => ⟨S2x4x512, .f32⟩
  | 117 => ⟨S2x4x512x1, .f32⟩
  | 118 => ⟨S2x4x512x512, .f32⟩
  | 119 => ⟨S2x4x512x512, .f32⟩
  | 120 => ⟨S2x4x512x512, .f32⟩
  | 121 => ⟨S_, .i1⟩
  | 122 => ⟨S512, .i1⟩
  | 123 => ⟨S1x1x512x1, .i1⟩
  | 124 => ⟨S_, .f32⟩
  | 125 => ⟨S2x4x512, .f32⟩
  | 126 => ⟨S2x4x512x1, .f32⟩
  | 127 => ⟨S_, .f32⟩
  | _ => ⟨S2x512x512, .bf16⟩

abbrev hbmTy0_1 (i : Nat) : BufTy := match i % 128 with
  | 0 => ⟨S_, .f32⟩
  | 1 => ⟨S2x4x512x1, .i1⟩
  | 2 => ⟨S2x4x512x1, .f32⟩
  | 3 => ⟨S2x4x512x1, .f32⟩
  | 4 => ⟨S2x4x512x512, .f32⟩
  | 5 => ⟨S2x4x512x512, .f32⟩
  | 6 => ⟨S1x1x512x1, .i1⟩
  | 7 => ⟨S_, .f32⟩
  | 8 => ⟨S_, .f32⟩
  | 9 => ⟨S2x4x512x512, .i1⟩
  | 10 => ⟨S2x4x512x512, .f32⟩
  | 11 => ⟨S2x4x512x512, .f32⟩
  | 12 => ⟨S2x512x4x64, .f32⟩
  | 13 => ⟨S2x4x64x512, .f32⟩
  | 14 => ⟨S2x512x4x64, .f32⟩
  | 15 => ⟨S2x512x256, .f32⟩
  | 16 => ⟨S256x512, .f32⟩
  | 17 => ⟨S2x512x512, .f32⟩
  | _ => ⟨S2x512x512, .bf16⟩

abbrev hbmTy (i : Nat) : BufTy := match i / 128 with
  | 0 => hbmTy0_0 i
  | 1 => hbmTy0_1 i
  | _ => ⟨S2x512x512, .bf16⟩

abbrev bufTy : (tb : Table) → Fin (tcTables nBuf tb) → BufTy
  | .hbm, ⟨i, _⟩ => hbmTy i
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v14 : Ref sig .tc := ⟨.hbm, 74, rfl⟩
abbrev main_c_2 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_cst : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_cst_3 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v28 : Ref sig .tc := ⟨.hbm, 114, rfl⟩
abbrev main_cst_4 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_c_5 : Ref sig .tc := ⟨.hbm, 121, rfl⟩
abbrev main_v34 : Ref sig .tc := ⟨.hbm, 122, rfl⟩
abbrev main_v35 : Ref sig .tc := ⟨.hbm, 123, rfl⟩
abbrev main_cst_6 : Ref sig .tc := ⟨.hbm, 124, rfl⟩
abbrev main_v36 : Ref sig .tc := ⟨.hbm, 125, rfl⟩
abbrev main_v37 : Ref sig .tc := ⟨.hbm, 126, rfl⟩
abbrev main_cst_7 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v38 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_cst_8 : Ref sig .tc := ⟨.hbm, 135, rfl⟩
abbrev main_call6_v0 : Ref sig .tc := ⟨.hbm, 136, rfl⟩
abbrev main_call6_v1 : Ref sig .tc := ⟨.hbm, 137, rfl⟩
abbrev main_call6_v2 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩

abbrev nD : Nat := 1
abbrev τ : Topo := Topo.v7x

variable {F : FTy → Type} [FloatOps F]
-- ==== Proof.Exchange.lean ====
/-
# The exchange: who waits for whom, and what each landing hands over

Four devices; the partner of device `c` is `(c + 2) mod 4`, and partners are each other's. A device packs its blocks of K and of V into
slot 0 of its scratch, tells its partner that its slot 1 may be written (one unit on the partner's barrier semaphore),
waits for the partner's unit, and copies its slot 0 into the partner's slot 1. So, for device `c`:

* its BARRIER semaphore is waited by `c` for 1 and paid 1 by the partner, whose signal hands over the partner's slot 1
  (at any contents) and that the partner's receive semaphore has not been paid;
* its SEND semaphore is waited by `c` for one slot's credit and paid by its own copy, which hands back its slot 0;
* its RECEIVE semaphore is waited by `c` for one slot's credit and paid by the partner's copy, which hands over `c`'s
  slot 1 holding what the partner packed.

A barrier wait is below a receive wait; the devices' staging and send waits are below both.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The exchange's own ghost state: rounds over the semaphore cells, each round with at most the one duty `()`. -/
abbrev XB : Type := URounds (GSem nD τ sig) Unit
/-- The pipeline library's ghost state beside it. -/
abbrev UU : Type := UR sig nD τ × XB

local notation "𝕄" => MT nD τ sig Unit (Elt F) ℕ UU ℕ

abbrev EP : Emb (UR sig nD τ) (MT nD τ sig Unit (Elt F) ℕ UU ℕ) := embL
abbrev EX : Emb XB (MT nD τ sig Unit (Elt F) ℕ UU ℕ) := embR

variable (m : (ℓ : Loc nD τ sig) → Buf (Elt F) ℓ) (ρ : Dev nD → PrngReg)

/-- The machine at the start: any memory, every semaphore counter zero, any generator registers. -/
def s₀ : MemSt nD τ sig (Elt F) := ⟨m, fun _ => 0, ρ⟩

/-! ## Partners -/

set_option backward.proofsInPublic true in
/-- The device across: two further on, around four. -/
def pt (c : Dev nD) : Dev nD := ⟨(c.val + 2) % 4, Nat.mod_lt _ (by decide)⟩

/-- Partners are each other's. -/
theorem pt_pt (c : Dev nD) : pt (pt c) = c := by revert c; decide

/-- The signal is addressed to the partner, -/
theorem dev1_eq (c : Dev nD) : (⟨k0_dev1 c, k0_dev1_lt c⟩ : Dev nD) = pt c := by revert c; decide +kernel
/-- and so is the copy. -/
theorem dev2_eq (c : Dev nD) : (⟨k0_dev2 c, k0_dev2_lt c⟩ : Dev nD) = pt c := by revert c; decide +kernel

/-- Going across, as a permutation of the devices. -/
def across : Dev nD ≃ Dev nD := ⟨pt, pt, pt_pt, pt_pt⟩

/-! ## The scratch, its two slots, the semaphores -/

abbrev kvM : Memref sig .tc .vmem S2x2x128x512 .bf16 := Memref.whole cc0_scratch0
/-- The box of slot 0 in the scratch, -/
abbrev box0 : Rect S2x2x128x512 := Rect.unit (s := S2x2x128x512) ![0, 0, 0, 0] S1x2x128x512.size inb_S2x2x128x512_S1x2x128x512_0_0_0_0
/-- and that of slot 1. -/
abbrev box1 : Rect S2x2x128x512 := Rect.unit (s := S2x2x128x512) ![1, 0, 0, 0] S1x2x128x512.size inb_S2x2x128x512_S1x2x128x512_1_0_0_0
/-- Slot 0, what a device packed itself, as the copy names it: -/
abbrev mineM : Memref sig .tc .vmem S2x128x512 .bf16 := (kvM.slice box0 (fun _ => rfl)).squeeze S2x128x512 squeezes_S1x2x128x512_S2x128x512
/-- and slot 1, what its partner sends. -/
abbrev theirsM : Memref sig .tc .vmem S2x128x512 .bf16 := (kvM.slice box1 (fun _ => rfl)).squeeze S2x128x512 squeezes_S1x2x128x512_S2x128x512

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own scoped semaphores; -/
abbrev osem : Fin 2 → SemLoc sig := fun | 0 => .dma sendS.sem | 1 => .dma recvS.sem
/-- all three that the exchange uses. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- What the copy of one slot pays a DMA semaphore. -/
@[irreducible] def N : ℕ := theirsM.view.dmaCredit
theorem N_eq : theirsM.view.dmaCredit = N := by unfold N; rfl
theorem N_pos : 0 < N := by rw [← N_eq]; exact View.dmaCredit_pos _ (by decide)

/-! ## Contents -/

/-- Device `c`'s block of `x`, as the pipeline stages it, -/
def xIn (c : Dev nD) : (cc0_stg0_0 : Ref sig .tc).ty.Contents (Elt F) :=
  (win0_0.blk (0 : Fin 1)).view.read (Elt F) ((s₀ m ρ).mem ((c : Thread nD τ).loc main_arg0))
/-- its copy of `Wq`, -/
def wqIn (c : Dev nD) : (cc0_stg1_0 : Ref sig .tc).ty.Contents (Elt F) :=
  (win0_1.blk (0 : Fin 1)).view.read (Elt F) ((s₀ m ρ).mem ((c : Thread nD τ).loc main_arg1))
/-- its block of `K_ext`, -/
def kIn (c : Dev nD) : (cc0_stg2_0 : Ref sig .tc).ty.Contents (Elt F) :=
  (win0_2.blk (0 : Fin 1)).view.read (Elt F) ((s₀ m ρ).mem ((c : Thread nD τ).loc main_arg2))
/-- its block of `V_ext`, -/
def vIn (c : Dev nD) : (cc0_stg3_0 : Ref sig .tc).ty.Contents (Elt F) :=
  (win0_3.blk (0 : Fin 1)).view.read (Elt F) ((s₀ m ρ).mem ((c : Thread nD τ).loc main_arg3))
/-- its copy of `Wo`. -/
def woIn (c : Dev nD) : (cc0_stg4_0 : Ref sig .tc).ty.Contents (Elt F) :=
  (win0_4.blk (0 : Fin 1)).view.read (Elt F) ((s₀ m ρ).mem ((c : Thread nD τ).loc main_arg4))

/-- A load of a staged block of K (of V) for batch 0, -/
abbrev kRect0 : Rect S2x128x4x64 := Rect.unit (s := S2x128x4x64) ![0, 0, 0, 0] S1x128x4x64.size inb_S2x128x4x64_S1x128x4x64_0_0_0_0
/-- and for batch 1. -/
abbrev kRect1 : Rect S2x128x4x64 := Rect.unit (s := S2x128x4x64) ![1, 0, 0, 0] S1x128x4x64.size inb_S2x128x4x64_S1x128x4x64_1_0_0_0
abbrev kvStgK : Memref sig .tc .vmem S2x128x4x64 .bf16 := Memref.whole cc0_stg2_0
abbrev kvStgV : Memref sig .tc .vmem S2x128x4x64 .bf16 := Memref.whole cc0_stg3_0

/-- A slot as a device packs it from its blocks `k` and `v`: row by row, the 256 entries of K and then those of V. -/
def packed (k : (cc0_stg2_0 : Ref sig .tc).ty.Contents (Elt F)) (v : (cc0_stg3_0 : Ref sig .tc).ty.Contents (Elt F))
    (b : Fin 2) (r : Fin 128) (q : Fin 512) : Elt F .bf16 :=
  if h : q.val < 256 then
    (if b.val = 0 then k0_pay2 (kvStgK.view.readAt (Elt F) kRect0.toLoadRect k)
      else k0_pay5 (k0_pay4 (kvStgK.view.readAt (Elt F) kRect1.toLoadRect k))) (ix4 0 0 r ⟨q.val, h⟩)
  else
    (if b.val = 0 then k0_pay3 (kvStgV.view.readAt (Elt F) kRect0.toLoadRect v)
      else k0_pay6 (kvStgV.view.readAt (Elt F) kRect1.toLoadRect v)) (ix4 0 0 r ⟨q.val - 256, by have := q.isLt; omega⟩)

/-- The scratch after the exchange: slot 0 what device `c` packed, slot 1 what its partner packed. -/
def kvAll (c : Dev nD) : (cc0_scratch0 : Ref sig .tc).ty.Contents (Elt F) := fun i : S2x2x128x512.Idx =>
  packed (kIn m ρ (if (i 0).val = 0 then c else pt c)) (vIn m ρ (if (i 0).val = 0 then c else pt c)) (i 1) (i 2) (i 3)

/-- The elements of slot 0 of the scratch are those whose first coordinate is 0, -/
theorem mem_mine (j : S2x2x128x512.Idx) : j ∈ (mineM.view.set : Finset S2x2x128x512.Idx) ↔ (j 0).val = 0 := by
  have e : (mineM.view.set : Finset S2x2x128x512.Idx) = box0.set :=
    (View.set_reshape _ _).trans (View.set_slice_whole cc0_scratch0 box0)
  rw [e, Rect.mem_set_unit]
  constructor
  · intro h; have := (h 0).2; simpa using this
  · intro h a
    have := (j a).isLt
    fin_cases a <;> simp_all <;> omega
/-- those of slot 1 the others. -/
theorem mem_theirs (j : S2x2x128x512.Idx) : j ∈ (theirsM.view.set : Finset S2x2x128x512.Idx) ↔ (j 0).val ≠ 0 := by
  have e : (theirsM.view.set : Finset S2x2x128x512.Idx) = box1.set :=
    (View.set_reshape _ _).trans (View.set_slice_whole cc0_scratch0 box1)
  rw [e, Rect.mem_set_unit]
  constructor
  · intro h; have := (h 0).1; simp at this; omega
  · intro h a
    have h0 := (j 0).isLt
    have := (j a).isLt
    fin_cases a <;> simp_all <;> omega

/-- The two slots have no element in common, -/
theorem slots_disjoint : Disjoint (mineM.view.set : Finset S2x2x128x512.Idx) theirsM.view.set :=
  Finset.disjoint_left.mpr fun j h h' => (mem_theirs j).mp h' ((mem_mine j).mp h)
/-- and are the whole scratch. -/
theorem slots_union : (mineM.view.set : Finset S2x2x128x512.Idx) ∪ theirsM.view.set = Finset.univ := by
  ext j
  by_cases h : (j 0).val = 0
  · exact ⟨fun _ => Finset.mem_univ j, fun _ => Finset.mem_union_left _ ((mem_mine j).mpr h)⟩
  · exact ⟨fun _ => Finset.mem_univ j, fun _ => Finset.mem_union_right _ ((mem_theirs j).mpr h)⟩

/-- What lands in a slot 1 is what the sender's slot 0 held: on that slot, the partner's scratch is as `kvAll` says. -/
theorem landed_eq (c : Dev nD) (fd : (cc0_scratch0 : Ref sig .tc).ty.Contents (Elt F)) (j : S2x2x128x512.Idx)
    (hj : j ∈ (theirsM.view.set : Finset S2x2x128x512.Idx)) :
    theirsM.view.write (Elt F) fd (mineM.view.read (Elt F) (kvAll m ρ c)) Finset.univ j = kvAll m ρ (pt c) j := by
  obtain ⟨x, -, rfl⟩ := Finset.mem_map.mp hj
  refine (View.write_emb_of_mem (v := theirsM.view) (Val := Elt F) fd _ (Finset.mem_univ x)).trans ?_
  have e : ∀ y : S1x2x128x512.Idx, kvAll m ρ c (box0.emb y) = kvAll m ρ (pt c) (box1.emb y) := fun y => by
    have h0 : (y 0).val = 0 := by have := (y 0).isLt; simp at this; omega
    have e0 : ((box0.emb y) 0).val = 0 := by rw [Rect.emb_apply, h0]; rfl
    have e1 : ((box1.emb y) 0).val = 1 := by rw [Rect.emb_apply, h0]; rfl
    unfold kvAll
    rw [if_pos e0, if_neg (by rw [e1]; decide), pt_pt]
    congr 1
  exact e _

/-! ### The four stores that pack a slot -/

/-- The boxes of the scratch that a device stores: batch 0's and batch 1's K, then V. -/
abbrev boxK0 : Rect S2x2x128x512 := Rect.unit (s := S2x2x128x512) ![0, 0, 0, 0] S1x1x128x256.size inb_S2x2x128x512_S1x1x128x256_0_0_0_0
abbrev boxV0 : Rect S2x2x128x512 := Rect.unit (s := S2x2x128x512) ![0, 0, 0, 256] S1x1x128x256.size inb_S2x2x128x512_S1x1x128x256_0_0_0_256
abbrev boxK1 : Rect S2x2x128x512 := Rect.unit (s := S2x2x128x512) ![0, 1, 0, 0] S1x1x128x256.size inb_S2x2x128x512_S1x1x128x256_0_1_0_0
abbrev boxV1 : Rect S2x2x128x512 := Rect.unit (s := S2x2x128x512) ![0, 1, 0, 256] S1x1x128x256.size inb_S2x2x128x512_S1x1x128x256_0_1_0_256

/-- A store of one of those boxes over contents `f`. -/
abbrev put (r : Rect S2x2x128x512) (f : (cc0_scratch0 : Ref sig .tc).ty.Contents (Elt F)) (w : r.shape.Idx → Elt F .bf16) :
    (cc0_scratch0 : Ref sig .tc).ty.Contents (Elt F) :=
  (kvM.access r : View sig .tc _ _ _).write (Elt F) f w Finset.univ

/-- On its box a store's elements are the stored ones, -/
theorem put_emb (r : Rect S2x2x128x512) (f : (cc0_scratch0 : Ref sig .tc).ty.Contents (Elt F)) (w : r.shape.Idx → Elt F .bf16)
    (x : r.shape.Idx) : put r f w (r.emb x) = w x :=
  View.write_emb_of_mem (v := (kvM.access r : View sig .tc _ _ _)) (Val := Elt F) f w (Finset.mem_univ x)
/-- off it they are what they were. -/
theorem put_off (r : Rect S2x2x128x512) (f : (cc0_scratch0 : Ref sig .tc).ty.Contents (Elt F)) (w : r.shape.Idx → Elt F .bf16)
    (j : S2x2x128x512.Idx) (h : j ∉ r.set) : put r f w j = f j :=
  View.write_of_not_mem (v := (kvM.access r : View sig .tc _ _ _)) (Val := Elt F) f w Finset.univ
    (fun h' => h (by
      have h'' : j ∈ ((kvM.access r : View sig .tc _ _ _).set : Finset S2x2x128x512.Idx) := h'
      rwa [View.set_slice_whole] at h''))

/-- The scratch after the four stores, from contents `f`. -/
abbrev packOn (c : Dev nD) (f : (cc0_scratch0 : Ref sig .tc).ty.Contents (Elt F)) : (cc0_scratch0 : Ref sig .tc).ty.Contents (Elt F) :=
  put boxV1 (put boxK1 (put boxV0 (put boxK0 f
    (k0_pay2 (kvStgK.view.readAt (Elt F) kRect0.toLoadRect (kIn m ρ c))))
    (k0_pay3 (kvStgV.view.readAt (Elt F) kRect0.toLoadRect (vIn m ρ c))))
    (k0_pay5 (k0_pay4 (kvStgK.view.readAt (Elt F) kRect1.toLoadRect (kIn m ρ c)))))
    (k0_pay6 (kvStgV.view.readAt (Elt F) kRect1.toLoadRect (vIn m ρ c)))

/-- On slot 0 they leave what `kvAll` says. -/
theorem packOn_mine (c : Dev nD) (f : (cc0_scratch0 : Ref sig .tc).ty.Contents (Elt F)) (j : S2x2x128x512.Idx)
    (hj : j ∈ (mineM.view.set : Finset S2x2x128x512.Idx)) : packOn m ρ c f j = kvAll m ρ c j := by
  have h0 := (mem_mine j).mp hj
  have h1 := (j 1).isLt
  have h2 := (j 2).isLt
  have h3 := (j 3).isLt
  have off : ∀ (o1 o3 : ℕ) (inb), ¬ ((j 1).val = o1 ∧ o3 ≤ (j 3).val ∧ (j 3).val < o3 + 256) →
      j ∉ (Rect.unit (s := S2x2x128x512) ![0, o1, 0, o3] S1x1x128x256.size inb).set := fun o1 o3 inb h hm => by
    rw [Rect.mem_set_unit] at hm
    have a1 := hm 1; have a3 := hm 3
    simp at a1 a3
    exact h ⟨by omega, by omega, by omega⟩
  have on : ∀ (o1 o3 : ℕ) (inb) (hq : (j 3).val - o3 < 256), (j 1).val = o1 → o3 ≤ (j 3).val →
      j = (Rect.unit (s := S2x2x128x512) ![0, o1, 0, o3] S1x1x128x256.size inb).emb (ix4 0 0 (j 2) ⟨(j 3).val - o3, hq⟩) :=
    fun o1 o3 inb hq e1 e3 => by
      funext a; apply Fin.ext; rw [Rect.emb_apply]
      fin_cases a <;> simp [h0, e1] <;> omega
  unfold kvAll packed
  rw [if_pos h0]
  by_cases hq : (j 3).val < 256
  · rw [dif_pos hq]
    rcases (show (j 1).val = 0 ∨ (j 1).val = 1 by simp at h1; omega) with hb | hb
    · rw [if_pos hb]
      unfold packOn
      rw [put_off _ _ _ _ (off 1 256 _ (by omega)), put_off _ _ _ _ (off 1 0 _ (by omega)), put_off _ _ _ _ (off 0 256 _ (by omega))]
      conv_lhs => rw [on 0 0 inb_S2x2x128x512_S1x1x128x256_0_0_0_0 (by omega) hb (by omega)]
      exact put_emb _ _ _ _
    · rw [if_neg (by omega)]
      unfold packOn
      rw [put_off _ _ _ _ (off 1 256 _ (by omega))]
      conv_lhs => rw [on 1 0 inb_S2x2x128x512_S1x1x128x256_0_1_0_0 (by omega) hb (by omega)]
      exact put_emb _ _ _ _
  · rw [dif_neg hq]
    have h3' : (j 3).val < 512 := h3
    rcases (show (j 1).val = 0 ∨ (j 1).val = 1 by simp at h1; omega) with hb | hb
    · rw [if_pos hb]
      unfold packOn
      rw [put_off _ _ _ _ (off 1 256 _ (by omega)), put_off _ _ _ _ (off 1 0 _ (by omega))]
      conv_lhs => rw [on 0 256 inb_S2x2x128x512_S1x1x128x256_0_0_0_256 (by omega) hb (by omega)]
      exact put_emb _ _ _ _
    · rw [if_neg (by omega)]
      unfold packOn
      conv_lhs => rw [on 1 256 inb_S2x2x128x512_S1x1x128x256_0_1_0_256 (by omega) hb (by omega)]
      exact put_emb _ _ _ _

/-! ## The schedule -/

/-- Device `c`'s slot 0, at contents `f`, -/
def mineAt (c : Dev nD) (f : (cc0_scratch0 : Ref sig .tc).ty.Contents (Elt F)) : sProp 𝕄 :=
  mineM.view.loc (c : Thread nD τ) ↦[mineM.view.set]{fullShare} f
/-- and its slot 1. -/
def theirsAt (c : Dev nD) (f : (cc0_scratch0 : Ref sig .tc).ty.Contents (Elt F)) : sProp 𝕄 :=
  theirsM.view.loc (c : Thread nD τ) ↦[theirsM.view.set]{fullShare} f

instance mineAt_storable (c : Dev nD) (f) : BI.Storable (upEmb : UEmb _ 𝕄) (mineAt (F := F) c f) := by unfold mineAt; infer_instance
instance theirsAt_storable (c : Dev nD) (f) : BI.Storable (upEmb : UEmb _ 𝕄) (theirsAt (F := F) c f) := by unfold theirsAt; infer_instance

/-- The two slots are the whole scratch. -/
theorem slots_whole (c : Dev nD) (f : (cc0_scratch0 : Ref sig .tc).ty.Contents (Elt F)) :
    iprop(mineAt c f ∗ theirsAt c f) ⊣⊢ (((c : Thread nD τ).loc cc0_scratch0) ↦{fullShare} f : sProp 𝕄) := by
  have h := pointsTo_union (Ix := Unit) (Name := ℕ) (U := UU) (Lvl := ℕ) (ℓ := (c : Thread nD τ).loc cc0_scratch0) (q := fullShare) (f := f) slots_disjoint
  rw [slots_union] at h
  exact h.symm

/-- Which of the three semaphores it is, if any. -/
def role (s : SemLoc sig) : Option (Fin 3) :=
  if s = csem 0 then some 0 else if s = csem 1 then some 1 else if s = csem 2 then some 2 else none
theorem role_csem (k : Fin 3) : role (csem k) = some k := by revert k; decide

/-- What a payment of each hands over: on the barrier the partner's slot 1 and that its receive cell is unpaid;
    on the other two a slot of one's own as the exchange leaves it. -/
def handed (c : Dev nD) : Option (Fin 3) → sProp 𝕄
  | some 0 => iprop((∃ f, theirsAt (pt c) f) ∗ reached EX (recvCell (pt c)) 0)
  | some 1 => mineAt c (kvAll m ρ c)
  | some 2 => theirsAt c (kvAll m ρ c)
  | none => iprop(emp)

instance handed_storable (c : Dev nD) : ∀ o, BI.Storable (upEmb : UEmb _ 𝕄) (handed m ρ c o)
  | some 0 => by unfold handed; infer_instance
  | some 1 => by unfold handed; infer_instance
  | some 2 => by unfold handed; infer_instance
  | none => by unfold handed; infer_instance

/-- How much it pays. -/
def worth : Option (Fin 3) → ℕ
  | some 0 => 1
  | _ => N
theorem worth_pos : ∀ o, 0 < worth o
  | some 0 => Nat.one_pos
  | some 1 => N_pos
  | some 2 => N_pos
  | none => N_pos

/-- Each of the three cells of each device has one round with one duty. -/
def plan : Rounds.Schedule (GSem nD τ sig) Unit 𝕄 where
  duties g r := if r = 0 ∧ g.1.2 = .tc ∧ (role g.2).isSome then {()} else ∅
  unitless _ := False
  amount g _ _ := worth (role g.2)
  payload g _ _ := handed m ρ g.1.1 (role g.2)
  amount_pos g _ _ _ := worth_pos _

instance plan_storable (g : GSem nD τ sig) (r : ℕ) (d : Unit) : BI.Storable (upEmb : UEmb _ 𝕄) ((plan (F := F) m ρ).payload g r d) :=
  handed_storable m ρ g.1.1 (role g.2)

section Plan
variable (c : Dev nD) (k : Fin 3)

theorem plan_duties : (plan (F := F) m ρ).duties (kcell (c, k)) 0 = {()} :=
  if_pos ⟨rfl, rfl, by rw [show (kcell (c, k)).2 = csem k from rfl, role_csem]; rfl⟩
theorem plan_mem : () ∈ (plan (F := F) m ρ).duties (kcell (c, k)) 0 := by rw [plan_duties]; exact Finset.mem_singleton_self _
theorem plan_later (g : GSem nD τ sig) : ∀ r, 1 ≤ r → (plan (F := F) m ρ).duties g r = ∅ :=
  fun r hr => if_neg fun h => absurd h.1 (by omega)
theorem plan_amount (d : Unit) : (plan (F := F) m ρ).amount (kcell (c, k)) 0 d = worth (some k) := congrArg worth (role_csem k)
theorem plan_payload (d : Unit) : (plan (F := F) m ρ).payload (kcell (c, k)) 0 d = handed m ρ c (some k) := congrArg (handed m ρ c) (role_csem k)
theorem plan_expect : (plan (F := F) m ρ).expect (kcell (c, k)) 0 = worth (some k) := by
  unfold Schedule.expect Schedule.amountOf; rw [plan_duties, Finset.sum_singleton, plan_amount]
/-- All of a cell's round is its one payload. -/
theorem plan_rest : bigSep ((plan (F := F) m ρ).duties (kcell (c, k)) 0 \ ∅) (fun d => (plan (F := F) m ρ).payload (kcell (c, k)) 0 d) = handed m ρ c (some k) := by
  rw [Finset.sdiff_empty, plan_duties, bigSep_singleton, plan_payload]

end Plan

/-! ## What a device owes, and the levels -/

/-- After its signal a device owes its partner one slot's credit, -/
abbrev debtCopy (c : Dev nD) : CellTallies nD τ sig Unit := tallyAt (recvCell (pt c)) () N
/-- and before it one unit of the barrier too. -/
def debt (c : Dev nD) : CellTallies nD τ sig Unit := debtCopy c + tallyAt (barCell (pt c)) () 1

/-- A level is given at a device's semaphores only. -/
def Lix (g : GSem nD τ sig) : Finset Unit := if g.1.2 = .tc then {()} else ∅
/-- The barrier below the receive semaphores, everything else below both. -/
def height (s : SemLoc sig) : ℕ := match role s with | some 0 => 1 | some 2 => 2 | _ => 0
abbrev lev (g : GSem nD τ sig) (_ : Unit) : ℕ := height g.2

theorem height_csem : height (csem 0) = 1 ∧ height (csem 1) = 0 ∧ height (csem 2) = 2 := by decide
theorem Lix_tc (c : Dev nD) (s : SemLoc sig) : () ∈ Lix ((c : Thread nD τ), s) := by rw [show Lix ((c : Thread nD τ), s) = {()} from if_pos rfl]; exact Finset.mem_singleton_self _
theorem Lix_of_ne (g : GSem nD τ sig) (h : g.1.2 ≠ .tc) : Lix g = ∅ := if_neg h

theorem tally_at {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem debt_at {c : Dev nD} {g : GSem nD τ sig} {u : Unit} (h : 0 < debt c g u) : g = recvCell (pt c) ∨ g = barCell (pt c) := by
  unfold debt at h
  rw [Pi.add_apply, Finsupp.add_apply] at h
  rcases Nat.pos_of_ne_zero (n := debtCopy c g u + (tallyAt (barCell (pt c)) () 1 : CellTallies nD τ sig Unit) g u) (by omega) |> Nat.add_pos_iff_pos_or_pos.mp with h | h
  · exact .inl (tally_at h)
  · exact .inr (tally_at h)

/-- A device may wait for a semaphore lying below all that it owes. -/
theorem mayWait_below (c : Dev nD) (s : SemLoc sig) (O : CellTallies nD τ sig Unit)
    (h : ∀ g u, 0 < O g u → (∃ d : Dev nD, g.1 = (d : Thread nD τ)) ∧ height s < height g.2) :
    (levAts Lix lev : sProp 𝕄) ⊢ MayWait (c : Thread nD τ) s () O :=
  MayOwe.of_cut (L := Lix) (lev := lev) (height s)
    (fun p hp => by rw [Finset.mem_singleton.mp hp]; exact Lix_tc c s)
    (fun g u hg => by
      obtain ⟨⟨d, hd⟩, -⟩ := h g u hg
      have := Lix_tc d g.2
      rw [← hd] at this; exact this)
    (fun p hp => by rw [Finset.mem_singleton.mp hp])
    (fun g u hg => (h g u hg).2)

end Cert.Exchange
-- ==== Proof.Body.lean ====
/-
# One device's body, executed symbolically

What device `c` computes once the exchange has filled its scratch is `outAt`, the composition of the body's own pure
parts at what its loads read. `sound_body` runs the body from the exchange's starting state to that result.
-/
module

public import proofs.«01_k».proof.Proof.Exchange
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev xM : Memref sig .tc .vmem S2x128x512 .bf16 := Memref.whole cc0_stg0_0
abbrev wqM : Memref sig .tc .vmem S512x256 .bf16 := Memref.whole cc0_stg1_0
abbrev woM : Memref sig .tc .vmem S256x512 .bf16 := Memref.whole cc0_stg4_0
abbrev outM : Memref sig .tc .vmem S2x128x512 .f32 := Memref.whole cc0_stg5_0

/-! ## What the body computes -/

/-- The body's queries, scaled: batch by batch the rows of `x` times `Wq`. -/
def queries (c : Dev nD) : FVec F S256x256 .bf16 :=
  k0_pay9
    (k0_pay7 (wqM.view.readAt (Elt F) (Rect.unit (s := S512x256) ![0, 0] S512x256.size inb_S512x256_S512x256_0_0).toLoadRect (wqIn m ρ c)))
    (k0_pay8 (xM.view.readAt (Elt F) (Rect.unit (s := S2x128x512) ![0, 0, 0] S2x128x512.size inb_S2x128x512_S2x128x512_0_0_0).toLoadRect (xIn m ρ c)))

/-- The block mask: which of the 256 keys at hand each of the 128 query rows sees. -/
def seen : IVec S128x256 1 :=
  k0_pay14 k0_pay10 (iota .tc S128x256 32 [1] iota_S128x256_d1_w32) 64#32 k0_pay11 k0_pay12 k0_pay13

/-- What a load of 64 columns from `o` of batch `b` of both slots reads. -/
def cols (c : Dev nD) (b o : ℕ) (inb : ∀ a : Fin 4, (![0, b, 0, o] : Fin 4 → ℕ) a + S2x1x128x64.size a ≤ S2x2x128x512.size a) : Vec F S2x1x128x64 .bf16 :=
  kvM.view.readAt (Elt F) (Rect.unit (s := S2x2x128x512) ![0, b, 0, o] S2x1x128x64.size inb).toLoadRect (kvAll m ρ c)

/-- Heads 0, 1, 2 of batch 0: what each puts in its 64 columns of the context. -/
def head00 (c : Dev nD) := k0_pay15 (queries m ρ c) seen (cols m ρ c 0 0 inb_S2x2x128x512_S2x1x128x64_0_0_0_0) (cols m ρ c 0 256 inb_S2x2x128x512_S2x1x128x64_0_0_0_256)
def head01 (c : Dev nD) := k0_pay18 (k0_pay16 (cols m ρ c 0 320 inb_S2x2x128x512_S2x1x128x64_0_0_0_320)) (k0_pay17 (queries m ρ c) seen (cols m ρ c 0 64 inb_S2x2x128x512_S2x1x128x64_0_0_0_64))
def head02 (c : Dev nD) := k0_pay19 (queries m ρ c) seen (cols m ρ c 0 128 inb_S2x2x128x512_S2x1x128x64_0_0_0_128) (cols m ρ c 0 384 inb_S2x2x128x512_S2x1x128x64_0_0_0_384)
/-- All four heads of batch 0 side by side (the fourth computed here). -/
def batch0 (c : Dev nD) :=
  k0_pay23 seen (head00 m ρ c) (head01 m ρ c) (head02 m ρ c) (k0_pay20 (queries m ρ c)) (k0_pay21 (cols m ρ c 0 192 inb_S2x2x128x512_S2x1x128x64_0_0_0_192)) (k0_pay22 (cols m ρ c 0 448 inb_S2x2x128x512_S2x1x128x64_0_0_0_448))
    (constant S128x256 .f32 0x00000000#32)
/-- Heads 0, 1, 2 of batch 1. -/
def head10 (c : Dev nD) := k0_pay24 (queries m ρ c) seen (cols m ρ c 1 0 inb_S2x2x128x512_S2x1x128x64_0_1_0_0) (cols m ρ c 1 256 inb_S2x2x128x512_S2x1x128x64_0_1_0_256)
def head11 (c : Dev nD) := k0_pay27 seen (k0_pay25 (queries m ρ c)) (k0_pay26 (cols m ρ c 1 64 inb_S2x2x128x512_S2x1x128x64_0_1_0_64)) (cols m ρ c 1 320 inb_S2x2x128x512_S2x1x128x64_0_1_0_320)
def head12 (c : Dev nD) := k0_pay28 (queries m ρ c) seen (cols m ρ c 1 128 inb_S2x2x128x512_S2x1x128x64_0_1_0_128) (cols m ρ c 1 384 inb_S2x2x128x512_S2x1x128x64_0_1_0_384)
/-- The result: both batches' contexts times `Wo` (batch 1's fourth head computed here). -/
def outAt (c : Dev nD) : (cc0_stg5_0 : Ref sig .tc).ty.Contents (Elt F) :=
  k0_pay1 seen (batch0 m ρ c) (head10 m ρ c) (head11 m ρ c) (head12 m ρ c) (k0_pay29 (queries m ρ c)) (cols m ρ c 1 192 inb_S2x2x128x512_S2x1x128x64_0_1_0_192) (cols m ρ c 1 448 inb_S2x2x128x512_S2x1x128x64_0_1_0_448)
    (woM.view.readAt (Elt F) (Rect.unit (s := S256x512) ![0, 0] S256x512.size inb_S256x512_S256x512_0_0).toLoadRect (woIn m ρ c))

/-! ## The pipeline's data -/

/-- What device `c`'s body runs with: the cells' invariants it opens, at the names `K` they were allocated under, -/
def rooms (K : Dev nD × Fin 3 → ℕ) (c : Dev nD) : sProp 𝕄 :=
  iprop((cellInv EX (plan m ρ) (K (c, 0)) (barCell c) ∗ cellInv EX (plan m ρ) (K (c, 1)) (sendCell c) ∗ cellInv EX (plan m ρ) (K (c, 2)) (recvCell c))
    ∗ cellInv EX (plan m ρ) (K (pt c, 0)) (barCell (pt c)) ∗ cellInv EX (plan m ρ) (K (pt c, 2)) (recvCell (pt c)))
/-- its positions in its three cells' rounds, -/
def places (c : Dev nD) : sProp 𝕄 :=
  iprop(atPos EX (barCell c) 0 ∅ 0 ∗ atPos EX (sendCell c) 0 ∅ 0 ∗ atPos EX (recvCell c) 0 ∅ 0)
/-- and, of each cell it pays — its partner's barrier and receive cells, its own send cell — that round 0 is reached (of its own
    receive cell too, to tell its partner) and the right to pay. -/
def rights (c : Dev nD) : sProp 𝕄 :=
  iprop((reached EX (barCell (pt c)) 0 ∗ reached EX (sendCell c) 0 ∗ reached EX (recvCell c) 0 ∗ reached EX (recvCell (pt c)) 0)
    ∗ dutyTok EX (barCell (pt c)) 0 () ∗ dutyTok EX (sendCell c) 0 () ∗ dutyTok EX (recvCell (pt c)) 0 ())

instance rooms_persistent (K : Dev nD × Fin 3 → ℕ) (c : Dev nD) : BI.Persistent (rooms m ρ K c) := by unfold rooms; infer_instance

/-- What the pipeline carries into the body: all of that, the credit of its barrier and receive cells, the levels, the scratch. -/
def Φin (c : Dev nD) : sProp 𝕄 :=
  iprop((∃ K, rooms m ρ K c ∗ places c ∗ rights c) ∗ (cred (tallyAt (barCell c) () 1) ∗ cred (tallyAt (recvCell c) () N) ∗ levAts Lix lev)
    ∗ ∃ f, ((c : Thread nD τ).loc cc0_scratch0) ↦{fullShare} f)
/-- What it carries out: the scratch after the exchange, the three semaphores back at zero. -/
def Φout (c : Dev nD) : sProp 𝕄 :=
  iprop((((c : Thread nD τ).loc cc0_scratch0) ↦{fullShare} kvAll m ρ c) ∗ semVal (sendCell c) 0 ∗ semVal (recvCell c) 0 ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wqIn m ρ c
    | ⟨2, _⟩ => kIn m ρ c
    | ⟨3, _⟩ => vIn m ρ c
    | ⟨4, _⟩ => woIn m ρ c
    | ⟨5, _⟩ => outAt m ρ c
  Φ t := if t.val = 0 then Φin m ρ c else Φout m ρ c
  q _ := fullShare
  owed t := if t.val = 0 then debt c else 0

abbrev 𝒱₀ : Variants := Variants.none

/-- Buffer `b` of device `c`, whole, at `X`. -/
abbrev bufAt (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_bufAt (c : Dev nD) (b : Ref sig .tc) (X : b.ty.Contents (Elt F)) :
    (owns (Ix := Unit) (Name := ℕ) (U := UU) (Lvl := ℕ) (c : Thread nD τ) (Memref.whole b) fullShare X : sProp 𝕄) = bufAt c b X := by
  unfold owns bufAt; simp only [Memref.view_whole, View.read_whole, View.set_whole]

/-! ## The run of the body -/

/-- The copy, addressed to `n`, which is the partner: from the sender's slot 0 and the partner's slot 1 into it, paying both
    its own send cell and the partner's receive cell. -/
theorem copy_rule (K : Dev nD × Fin 3 → ℕ) (c n : Dev nD) (hn : n = pt c)
    {hsc : theirsM.view.ref.isScScratch = false} {hsrc : mineM.view.WordExact} {hdst : theirsM.view.WordExact}
    {hsem : DmaTarget.Typed .vmem (.dma recvS.sem) (.remote (Dev.tc n : Thread nD τ) theirsM (.dma sendS.sem) hsc)}
    {α : Type} {Q : α → sProp 𝕄} {k : PUnit → Prog (TpuEff nD τ sig (Elt F) Λ₀ .tc) α}
    (g : (cc0_scratch0 : Ref sig .tc).ty.Contents (Elt F)) (W : Waits sig Unit) :
    iprop(cellInv EX (plan m ρ) (K (c, 1)) (sendCell c) ∗ cellInv EX (plan m ρ) (K (pt c, 2)) (recvCell (pt c))
        ∗ mineAt c (kvAll m ρ c) ∗ theirsAt (pt c) g ∗ owes (c : Thread nD τ) (debtCopy c) W
        ∗ dutyTok EX (sendCell c) 0 () ∗ reached EX (sendCell c) 0
        ∗ dutyTok EX (recvCell (pt c)) 0 () ∗ reached EX (recvCell (pt c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mineM (.remote (Dev.tc n : Thread nD τ) theirsM (.dma sendS.sem) hsc) (.dma recvS.sem) hsrc hdst hsem) k) Q) := by
  subst hn
  unfold mineAt theirsAt
  have d1 : () ∈ (plan (F := F) m ρ).duties (sendCell c) 0 := plan_mem m ρ c 1
  have d2 : () ∈ (plan (F := F) m ρ).duties (recvCell (pt c)) 0 := plan_mem m ρ (pt c) 2
  have a1 : (plan (F := F) m ρ).amount (sendCell c) 0 () = N := plan_amount m ρ c 1 ()
  have a2 : (plan (F := F) m ρ).amount (recvCell (pt c)) 0 () = N := plan_amount m ρ (pt c) 2 ()
  have p1 : (plan (F := F) m ρ).payload (sendCell c) 0 () = mineAt c (kvAll m ρ c) := plan_payload m ρ c 1 ()
  have p2 : (plan (F := F) m ρ).payload (recvCell (pt c)) 0 () = theirsAt (pt c) (kvAll m ρ (pt c)) := plan_payload m ρ (pt c) 2 ()
  have hN : theirsM.view.amount (.dma recvS.sem : SemLoc sig) = N := N_eq
  refine Rounds.wp_send_pointsTo 𝒱₀ EX (plan m ρ) (c : Thread nD τ) none (κ₁ := K (c, 1)) (κ₂ := K (pt c, 2))
    (src := mineM) (c' := (pt c : Thread nD τ)) (dst := theirsM) (sS := .dma sendS.sem) (sem := .dma recvS.sem)
    (r₁ := 0) (r₂ := 0) (d₁ := ()) (d₂ := ()) (fd := g) (fs := kvAll m ρ c)
    d1 d2
    () () N hN a1 a2 0 (by rw [zero_add]) (W := W) ?_ ?_
  · rw [p1]; unfold mineAt; exact BI.Entails.refl _
  · rw [p2]; unfold theirsAt; exact Entails.of_eq (pointsTo_congr fun j hj => landed_eq m ρ c g j hj)

/-- What the body starts from, the staging buffers' contents `g` still to be told. -/
def bodyIn (K : Dev nD × Fin 3 → ℕ) (c : Dev nD) (W : Waits sig Unit) (f : (cc0_scratch0 : Ref sig .tc).ty.Contents (Elt F))
    (o : (cc0_stg5_0 : Ref sig .tc).ty.Contents (Elt F)) : sProp 𝕄 :=
  iprop((rooms m ρ K c ∗ places c ∗ rights c) ∗ (cred (tallyAt (barCell c) () 1) ∗ cred (tallyAt (recvCell c) () N) ∗ levAts Lix lev)
    ∗ (((c : Thread nD τ).loc cc0_scratch0) ↦{fullShare} f) ∗ owes (c : Thread nD τ) (debt c) W
    ∗ (((c : Thread nD τ).loc cc0_stg0_0) ↦{fullShare} xIn m ρ c) ∗ (((c : Thread nD τ).loc cc0_stg1_0) ↦{fullShare} wqIn m ρ c)
    ∗ (((c : Thread nD τ).loc cc0_stg2_0) ↦{fullShare} kIn m ρ c) ∗ (((c : Thread nD τ).loc cc0_stg3_0) ↦{fullShare} vIn m ρ c)
    ∗ (((c : Thread nD τ).loc cc0_stg4_0) ↦{fullShare} woIn m ρ c) ∗ (((c : Thread nD τ).loc cc0_stg5_0) ↦{fullShare} o))

/-- What it ends with. -/
def bodyOut (c : Dev nD) : sProp 𝕄 :=
  iprop(Φout m ρ c ∗ (∃ W, owes (c : Thread nD τ) 0 W)
    ∗ (((c : Thread nD τ).loc cc0_stg0_0) ↦{fullShare} xIn m ρ c) ∗ (((c : Thread nD τ).loc cc0_stg1_0) ↦{fullShare} wqIn m ρ c)
    ∗ (((c : Thread nD τ).loc cc0_stg2_0) ↦{fullShare} kIn m ρ c) ∗ (((c : Thread nD τ).loc cc0_stg3_0) ↦{fullShare} vIn m ρ c)
    ∗ (((c : Thread nD τ).loc cc0_stg4_0) ↦{fullShare} woIn m ρ c) ∗ (((c : Thread nD τ).loc cc0_stg5_0) ↦{fullShare} outAt m ρ c))

theorem hz3 : (![0, 0, 0] : Fin 3 → Nat) = fun _ => 0 := funext fun a => by fin_cases a <;> rfl
/-- A store of the whole result buffer leaves what was stored. -/
theorem write_out (f w : (cc0_stg5_0 : Ref sig .tc).ty.Contents (Elt F)) :
    (outM.access (Rect.unit (s := S2x128x512) ![0, 0, 0] S2x128x512.size inb_S2x128x512_S2x128x512_0_0_0) : View sig .tc _ _ _).write (Elt F) f w Finset.univ = w :=
  Memref.write_access_unit_zero_univ (Elt F) cc0_stg5_0 hz3 _ f w

/-- After the four stores the whole scratch is its slot 0 packed and its slot 1 at whatever it held. -/
theorem packed_slots (c : Dev nD) (f : (cc0_scratch0 : Ref sig .tc).ty.Contents (Elt F)) :
    (((c : Thread nD τ).loc cc0_scratch0) ↦{fullShare} packOn m ρ c f : sProp 𝕄) ⊢ iprop(mineAt c (kvAll m ρ c) ∗ theirsAt c (packOn m ρ c f)) := by
  refine ((slots_whole c (packOn m ρ c f)).2).trans (sep_mono_left (Entails.of_eq ?_))
  unfold mineAt
  exact pointsTo_congr fun j hj => packOn_mine m ρ c f j hj

set_option maxHeartbeats 2000000 in
/-- The body, one rule per effect in program order. -/
theorem sound_body (K : Dev nD × Fin 3 → ℕ) (c : Dev nD) (W : Waits sig Unit) (f : (cc0_scratch0 : Ref sig .tc).ty.Contents (Elt F))
    (o : (cc0_stg5_0 : Ref sig .tc).ty.Contents (Elt F)) (Kt : PUnit → sProp 𝕄) :
    iprop(bodyIn m ρ K c W f o ∗ (bodyOut m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) cc0_scratch1 cc0_scratch2) Kt := by
  have e0 : (plan (F := F) m ρ).expect (barCell c) 0 = 1 := plan_expect m ρ c 0
  have e1 : (plan (F := F) m ρ).expect (sendCell c) 0 = N := plan_expect m ρ c 1
  have e2 : (plan (F := F) m ρ).expect (recvCell c) 0 = N := plan_expect m ρ c 2
  have pb : (plan (F := F) m ρ).payload (barCell (pt c)) 0 () = iprop((∃ f, theirsAt (pt (pt c)) f) ∗ reached EX (recvCell (pt (pt c))) 0) :=
    plan_payload m ρ (pt c) 0 ()
  rw [pt_pt] at pb
  have r0 : bigSep ((plan (F := F) m ρ).duties (barCell c) 0 \ ∅) (fun d => (plan (F := F) m ρ).payload (barCell c) 0 d)
      = iprop((∃ f, theirsAt (pt c) f) ∗ reached EX (recvCell (pt c)) 0) := plan_rest m ρ c 0
  have r1 : bigSep ((plan (F := F) m ρ).duties (sendCell c) 0 \ ∅) (fun d => (plan (F := F) m ρ).payload (sendCell c) 0 d)
      = mineAt c (kvAll m ρ c) := plan_rest m ρ c 1
  have r2 : bigSep ((plan (F := F) m ρ).duties (recvCell c) 0 \ ∅) (fun d => (plan (F := F) m ρ).payload (recvCell c) 0 d)
      = theirsAt c (kvAll m ρ c) := plan_rest m ρ c 2
  have db : () ∈ (plan (F := F) m ρ).duties (barCell (pt c)) 0 := plan_mem m ρ (pt c) 0
  have ab : (plan (F := F) m ρ).amount (barCell (pt c)) 0 () = 1 := plan_amount m ρ (pt c) 0 ()
  have below : (levAts Lix lev : sProp 𝕄) ⊢ MayWait (c : Thread nD τ) (.reg barS) () (debtCopy c) :=
    mayWait_below c (.reg barS) (debtCopy c) fun g u hg => by
      rw [tally_at hg]; exact ⟨⟨pt c, rfl⟩, by rw [show height (.reg barS) = 1 from height_csem.1, show height (recvCell (pt c)).2 = 2 from height_csem.2.2]; decide⟩
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, Prog.bind_assoc, wp_deviceId]
  unfold bodyIn rooms places rights
  iintro ⟨⟨⟨⟨⟨#HIb, #HIs, #HIr⟩, #HIbP, #HIrP⟩, ⟨HaB, HaS, HaR⟩, ⟨#HrBP, #HrS, #HrR, #HrRP⟩, HtBP, HtS, HtRP⟩, ⟨HcB, HcR, #Hlev⟩,
    Hkv, HO, Hx, Hwq, Hk, Hv, Hwo, Hout⟩, Hend⟩
  -- the four stores that pack slot 0
  iapply (wp_load 𝒱₀ (c : Thread nD τ) none Set.univ (m := kvStgK) (Finset.subset_univ _)) $$ Hk; iintro Hk
  iapply (wp_load 𝒱₀ (c : Thread nD τ) none Set.univ (m := kvM) (Finset.subset_univ _)) $$ Hkv; iintro Hkv
  iapply (wp_store 𝒱₀ (c : Thread nD τ) none Set.univ (m := kvM) (r := boxK0) (Mk := Finset.univ) (Finset.subset_univ _)) $$ Hkv; iintro Hkv
  iapply (wp_load 𝒱₀ (c : Thread nD τ) none Set.univ (m := kvStgV) (Finset.subset_univ _)) $$ Hv; iintro Hv
  iapply (wp_load 𝒱₀ (c : Thread nD τ) none Set.univ (m := kvM) (Finset.subset_univ _)) $$ Hkv; iintro Hkv
  iapply (wp_store 𝒱₀ (c : Thread nD τ) none Set.univ (m := kvM) (r := boxV0) (Mk := Finset.univ) (Finset.subset_univ _)) $$ Hkv; iintro Hkv
  iapply (wp_load 𝒱₀ (c : Thread nD τ) none Set.univ (m := kvStgK) (Finset.subset_univ _)) $$ Hk; iintro Hk
  iapply (wp_load 𝒱₀ (c : Thread nD τ) none Set.univ (m := kvM) (Finset.subset_univ _)) $$ Hkv; iintro Hkv
  iapply (wp_store 𝒱₀ (c : Thread nD τ) none Set.univ (m := kvM) (r := boxK1) (Mk := Finset.univ) (Finset.subset_univ _)) $$ Hkv; iintro Hkv
  iapply (wp_load 𝒱₀ (c : Thread nD τ) none Set.univ (m := kvStgV) (Finset.subset_univ _)) $$ Hv; iintro Hv
  iapply (wp_load 𝒱₀ (c : Thread nD τ) none Set.univ (m := kvM) (Finset.subset_univ _)) $$ Hkv; iintro Hkv
  iapply (wp_store 𝒱₀ (c : Thread nD τ) none Set.univ (m := kvM) (r := boxV1) (Mk := Finset.univ) (Finset.subset_univ _)) $$ Hkv; iintro Hkv
  ihave Hsl := (packed_slots m ρ c f) $$ Hkv
  icases Hsl with ⟨Hmine, Htheirs⟩
  -- the signal gives slot 1 to the partner
  simp only [dev1_eq c]
  iapply (Rounds.wp_signal 𝒱₀ EX (plan m ρ) (c : Thread nD τ) none (dst := (pt c : Thread nD τ)) (κ := K (pt c, 0))
      (d := ()) db (ab.trans (by decide)) () (debtCopy c) rfl) $$ [HO HtBP Htheirs]
  · isplitr; · iexact HIbP
    isplitl [HO]; · iexact HO
    isplitl [HtBP]; · iexact HtBP
    isplitl [Htheirs]
    · rw [pb]
      isplitl [Htheirs]; · iexists _; iexact Htheirs
      iexact HrR
    · iexact HrBP
  iintro HO
  -- the wait for the partner's signal brings the partner's slot 1
  iapply (Rounds.wp_wait_rest_token 𝒱₀ EX (plan m ρ) (c : Thread nD τ) none (κ := K (c, 0))
      (wpE_semWait_eq 𝒱₀ (c : Thread nD τ) none Set.univ) (Set.mem_univ _) () (O := debtCopy c) (W := W) (R := 0) (m := 0) (T := ∅)
      (by rw [e0]; decide)) $$ [HcB HO HaB]
  · isplitr; · iexact HIb
    isplitl [HcB]; · iexact HcB
    isplitl [HO]; · iexact HO
    isplitr; · iapply below; iexact Hlev
    iexact HaB
  iintro ⟨HO, HaB, -, Hpay⟩
  ihave Hp := (Entails.of_eq r0) $$ Hpay
  icases Hp with ⟨⟨%g, HthP⟩, #HrRP'⟩
  -- the copy, and the loads made while it flies
  iapply (copy_rule m ρ K c _ (dev2_eq c) g (insert (SemLoc.reg barS, ()) W)) $$ [Hmine HthP HO HtS HtRP]
  · isplitr; · iexact HIs
    isplitr; · iexact HIrP
    isplitl [Hmine]; · iexact Hmine
    isplitl [HthP]; · iexact HthP
    isplitl [HO]; · iexact HO
    isplitl [HtS]; · iexact HtS
    isplitr; · iexact HrS
    isplitl [HtRP]; · iexact HtRP
    iexact HrRP
  iintro ⟨HcS, HO⟩
  iapply (wp_load 𝒱₀ (c : Thread nD τ) none Set.univ (m := wqM) (Finset.subset_univ _)) $$ Hwq; iintro Hwq
  iapply (wp_load 𝒱₀ (c : Thread nD τ) none Set.univ (m := xM) (Finset.subset_univ _)) $$ Hx; iintro Hx
  -- the wait for its own copy brings slot 0 back
  iapply (Rounds.wp_wait_rest_token 𝒱₀ EX (plan m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, e1]; exact N_eq)) $$ [HcS HO HaS]
  · isplitr; · iexact HIs
    isplitl [HcS]; · rw [← N_eq]; iexact HcS
    isplitl [HO]; · iexact HO
    isplitr; · rw [MayWait_zero]; iempintro
    iexact HaS
  iintro ⟨HO, HaS, -, Hpay⟩
  ihave Hmine := (Entails.of_eq r1) $$ Hpay
  -- the wait for the partner's copy brings slot 1, filled
  iapply (Rounds.wp_wait_rest_token 𝒱₀ EX (plan m ρ) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, e2]; exact N_eq)) $$ [HcR HO HaR]
  · isplitr; · iexact HIr
    isplitl [HcR]; · rw [← N_eq]; iexact HcR
    isplitl [HO]; · iexact HO
    isplitr; · rw [MayWait_zero]; iempintro
    iexact HaR
  iintro ⟨HO, HaR, -, Hpay⟩
  ihave Htheirs := (Entails.of_eq r2) $$ Hpay
  ihave Hkv := (slots_whole c (kvAll m ρ c)).1 $$ [Hmine Htheirs]
  · isplitl [Hmine] <;> iassumption
  -- the three cells close at zero
  imod (Rounds.cell_close EX (plan m ρ) (Set.mem_univ (K (c, 0))) (fun h => h) (R := 0 + 1) (plan_later m ρ (barCell c))) $$ [HaB] with HzB
  · isplitr; · iexact HIb
    iexact HaB
  imod (Rounds.cell_close EX (plan m ρ) (Set.mem_univ (K (c, 1))) (fun h => h) (R := 0 + 1) (plan_later m ρ (sendCell c))) $$ [HaS] with HzS
  · isplitr; · iexact HIs
    iexact HaS
  imod (Rounds.cell_close EX (plan m ρ) (Set.mem_univ (K (c, 2))) (fun h => h) (R := 0 + 1) (plan_later m ρ (recvCell c))) $$ [HaR] with HzR
  · isplitr; · iexact HIr
    iexact HaR
  -- the heads' loads, then `Wo` and the store
  iterate 16 (iapply (wp_load 𝒱₀ (c : Thread nD τ) none Set.univ (m := kvM) (Finset.subset_univ _)) $$ Hkv; iintro Hkv)
  iapply (wp_load 𝒱₀ (c : Thread nD τ) none Set.univ (m := woM) (Finset.subset_univ _)) $$ Hwo; iintro Hwo
  iapply (wp_load 𝒱₀ (c : Thread nD τ) none Set.univ (m := outM) (Finset.subset_univ _)) $$ Hout; iintro Hout
  iapply (wp_store 𝒱₀ (c : Thread nD τ) none Set.univ (m := outM)
    (r := Rect.unit (s := S2x128x512) ![0, 0, 0] S2x128x512.size inb_S2x128x512_S2x128x512_0_0_0) (Mk := Finset.univ) (Finset.subset_univ _)) $$ Hout; iintro Hout
  rw [write_out, wp_ret]; imodintro
  iapply Hend
  unfold bodyOut Φout
  isplitl [Hkv HzS HzR HzB]
  · isplitl [Hkv]; · iexact Hkv
    isplitl [HzS]; · iexact HzS
    isplitl [HzR] <;> iassumption
  isplitl [HO]
  · iexists _; iexact HO
  isplitl [Hx]; · iexact Hx
  isplitl [Hwq]; · iexact Hwq
  isplitl [Hk]; · iexact Hk
  isplitl [Hv]; · iexact Hv
  isplitl [Hwo]; · iexact Hwo
  iexact Hout

/-! ## The pipeline's obligation -/

theorem fetched (w : Fin cfg0.W) (t : Fin cfg0.N) (hw : w ≠ 5) : (cfg0.win w).fetch t = true := by
  revert hw
  match w with
  | ⟨0, _⟩ => exact fun _ => fetch0_0 t
  | ⟨1, _⟩ => exact fun _ => fetch0_1 t
  | ⟨2, _⟩ => exact fun _ => fetch0_2 t
  | ⟨3, _⟩ => exact fun _ => fetch0_3 t
  | ⟨4, _⟩ => exact fun _ => fetch0_4 t
  | ⟨5, _⟩ => exact fun h => absurd rfl h

/-- A fetched window's staging buffer holds its array's block. -/
theorem before_eq (c : Dev nD) (w : Fin cfg0.W) (hw : w ≠ 5) (d) : (dats m ρ 0 c).before w t0_0 d = (dats m ρ 0 c).after w t0_0 := by
  unfold Dat.before
  rw [if_pos (fetched w t0_0 hw)]
  revert hw
  match w with
  | ⟨0, _⟩ => exact fun _ => rfl
  | ⟨1, _⟩ => exact fun _ => rfl
  | ⟨2, _⟩ => exact fun _ => rfl
  | ⟨3, _⟩ => exact fun _ => rfl
  | ⟨4, _⟩ => exact fun _ => rfl
  | ⟨5, _⟩ => exact fun h => absurd rfl h

set_option maxRecDepth 4000 in
def obPre (c : Dev nD) : sProp 𝕄 :=
  iprop(Φin m ρ c ∗ (dats m ρ 0 c).owesAt () t0_0.castSucc
    ∗ (∃ d, bufAt c cc0_stg0_0 ((dats m ρ 0 c).before (0 : Fin 6) t0_0 d)) ∗ (∃ d, bufAt c cc0_stg1_0 ((dats m ρ 0 c).before (1 : Fin 6) t0_0 d))
    ∗ (∃ d, bufAt c cc0_stg2_0 ((dats m ρ 0 c).before (2 : Fin 6) t0_0 d)) ∗ (∃ d, bufAt c cc0_stg3_0 ((dats m ρ 0 c).before (3 : Fin 6) t0_0 d))
    ∗ (∃ d, bufAt c cc0_stg4_0 ((dats m ρ 0 c).before (4 : Fin 6) t0_0 d)) ∗ (∃ d, bufAt c cc0_stg5_0 ((dats m ρ 0 c).before (5 : Fin 6) t0_0 d)))
set_option maxRecDepth 4000 in
def obPost (c : Dev nD) : sProp 𝕄 :=
  iprop(Φout m ρ c ∗ (dats m ρ 0 c).owesAt () t0_0.succ ∗ bufAt c cc0_stg0_0 (xIn m ρ c) ∗ bufAt c cc0_stg1_0 (wqIn m ρ c)
    ∗ bufAt c cc0_stg2_0 (kIn m ρ c) ∗ bufAt c cc0_stg3_0 (vIn m ρ c) ∗ bufAt c cc0_stg4_0 (woIn m ρ c) ∗ bufAt c cc0_stg5_0 (outAt m ρ c))

/-- Contents known exactly are contents known. -/
theorem bufAt_intro (c : Dev nD) (b : Ref sig .tc) (X : b.ty.Contents (Elt F)) : (((c : Thread nD τ).loc b) ↦{fullShare} X : sProp 𝕄) ⊢ bufAt c b X := by
  unfold bufAt; iintro H; iexists X; isplitr
  · ipureintro; rfl
  · iexact H
theorem bufAt_elim (c : Dev nD) (b : Ref sig .tc) (X : b.ty.Contents (Elt F)) : (bufAt c b X : sProp 𝕄) ⊢ (((c : Thread nD τ).loc b) ↦{fullShare} X) := by
  unfold bufAt; iintro ⟨%f, %hf, H⟩; subst hf; iexact H

set_option maxRecDepth 4000 in
/-- The body, as the pipeline asks for it at its one point. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0,
    show ∀ Φ : Fin cfg0.W → sProp 𝕄, bigSep Finset.univ Φ = iprop(Φ (0 : Fin 6) ∗ Φ (1 : Fin 6) ∗ Φ (2 : Fin 6) ∗ Φ (3 : Fin 6) ∗ Φ (4 : Fin 6) ∗ Φ (5 : Fin 6)) from bigSep_W0]
  simp only [owns_bufAt]
  show obPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) cc0_scratch1 cc0_scratch2) (fun _ => obPost m ρ c)
  unfold obPre Φin Dat.owesAt Pipeline.owesWithin
  iintro ⟨⟨⟨%K, Hg⟩, Hcr, ⟨%f, Hkv⟩⟩, ⟨%W, %hW, HO⟩, ⟨%d0, Hx⟩, ⟨%d1, Hwq⟩, ⟨%d2, Hk⟩, ⟨%d3, Hv⟩, ⟨%d4, Hwo⟩, ⟨%d5, Hout⟩⟩
  rw [before_eq m ρ c 0 (by decide), before_eq m ρ c 1 (by decide), before_eq m ρ c 2 (by decide), before_eq m ρ c 3 (by decide), before_eq m ρ c 4 (by decide)]
  rw [show (dats m ρ 0 c).owed t0_0.castSucc = debt c from rfl]
  ihave Hx := (bufAt_elim c cc0_stg0_0 _) $$ Hx
  ihave Hwq := (bufAt_elim c cc0_stg1_0 _) $$ Hwq
  ihave Hk := (bufAt_elim c cc0_stg2_0 _) $$ Hk
  ihave Hv := (bufAt_elim c cc0_stg3_0 _) $$ Hv
  ihave Hwo := (bufAt_elim c cc0_stg4_0 _) $$ Hwo
  ihave Hout := (bufAt_elim c cc0_stg5_0 _) $$ Hout
  iapply (sound_body m ρ K c W f _ fun _ => obPost m ρ c)
  isplitr []
  · unfold bodyIn
    isplitl [Hg]; · iexact Hg
    isplitl [Hcr]; · iexact Hcr
    isplitl [Hkv]; · iexact Hkv
    isplitl [HO]; · iexact HO
    isplitl [Hx]; · iexact Hx
    isplitl [Hwq]; · iexact Hwq
    isplitl [Hk]; · iexact Hk
    isplitl [Hv]; · iexact Hv
    isplitl [Hwo]; · iexact Hwo
    iexact Hout
  · unfold bodyOut obPost Dat.owesAt Pipeline.owesWithin
    rw [show (dats m ρ 0 c).owed t0_0.succ = 0 from rfl]
    iintro ⟨HΦ, ⟨%W', HO⟩, Hx, Hwq, Hk, Hv, Hwo, Hout⟩
    isplitl [HΦ]; · iexact HΦ
    isplitl [HO]
    · iexists W'; isplitr
      · ipureintro; exact fun _ _ => Or.inl trivial
      · iexact HO
    isplitl [Hx]; · iapply (bufAt_intro c cc0_stg0_0 (xIn m ρ c)); iexact Hx
    isplitl [Hwq]; · iapply (bufAt_intro c cc0_stg1_0 (wqIn m ρ c)); iexact Hwq
    isplitl [Hk]; · iapply (bufAt_intro c cc0_stg2_0 (kIn m ρ c)); iexact Hk
    isplitl [Hv]; · iapply (bufAt_intro c cc0_stg3_0 (vIn m ρ c)); iexact Hv
    isplitl [Hwo]; · iapply (bufAt_intro c cc0_stg4_0 (woIn m ρ c)); iexact Hwo
    iapply (bufAt_intro c cc0_stg5_0 (outAt m ρ c)); iexact Hout

end Cert.Exchange
-- ==== Proof.Run.lean ====
/-
# The launch of the exchange on four devices

The cells' ghost state is minted at the launch, the rights to pay a cell are dealt to the devices that pay it, and
`run_main` concludes for the whole program: from any memory every fair execution ends with each array as the pipeline's
data say and every semaphore counter at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_full (c : Dev nD) (w : Fin cfg0.W) : (dats m ρ 0 c).share w = fullShare := by unfold Dat.share; split <;> rfl

/-! ## Minting -/

theorem kcell_inj : Function.Injective (kcell : Dev nD × Fin 3 → GSem nD τ sig) := by
  rintro ⟨c, k⟩ ⟨c', k'⟩ h
  have hc : c = c' := congrArg (fun g : GSem nD τ sig => g.1.1) h
  have hk : csem k = csem k' := congrArg Prod.snd h
  have : some k = some k' := by rw [← role_csem, ← role_csem, hk]
  rw [hc, Option.some.inj this]
/-- The twelve cells, -/
def allCells : Finset (GSem nD τ sig) := Finset.univ.map ⟨kcell, kcell_inj⟩
/-- and one right to pay for each. -/
def allToks : Finset (GSem nD τ sig × ℕ × Unit) :=
  Finset.univ.map ⟨fun ck : Dev nD × Fin 3 => (kcell ck, 0, ()), fun _ _ h => kcell_inj (congrArg Prod.fst h)⟩

def u₀ : UU := (initOf (Pipeline.cells cfgs cellOf_inj) (Pipeline.launchToks cfgs cellOf_inj), initOf allCells allToks)

/-- What a device is dealt for each of its three cells. -/
def dealt (ck : Dev nD × Fin 3) : sProp 𝕄 :=
  iprop((atPos EX (kcell ck) 0 ∅ 0 ∗ dutyTok EX (kcell ck) 0 ()) ∗ reached EX (kcell ck) 0)
/-- At the launch, device by device. -/
def G (c : Dev nD) : sProp 𝕄 :=
  iprop((bigSep Finset.univ fun k : Fin 3 => roundState EX (plan m ρ) (kcell (c, k)) 0) ∗ bigSep Finset.univ fun k : Fin 3 => dealt (c, k))
/-- After the invariants are allocated. -/
def G' (c : Dev nD) : sProp 𝕄 := iprop(∃ K, rooms m ρ K c ∗ places c ∗ rights c)

theorem three (Φ : Fin 3 → sProp 𝕄) : bigSep Finset.univ Φ = iprop(Φ 0 ∗ Φ 1 ∗ Φ 2) := bigSep_univ_eq_bigSepL [0, 1, 2] (by decide) (by decide) Φ

theorem mint : BI.own (EX (initOf allCells allToks)) ⊢ (|==> bigSep Finset.univ (G m ρ) : sProp 𝕄) := by
  have hC (Φ : GSem nD τ sig → sProp 𝕄) : bigSep allCells Φ = bigSep Finset.univ fun ck : Dev nD × Fin 3 => Φ (kcell ck) := by
    unfold allCells; rw [bigSep_map]; rfl
  have hT : bigSep allToks (fun x => (dutyTok EX x.1 x.2.1 x.2.2 : sProp 𝕄)) = bigSep Finset.univ fun ck : Dev nD × Fin 3 => dutyTok EX (kcell ck) 0 () := by
    unfold allToks; rw [bigSep_map]; rfl
  have hG : bigSep Finset.univ (G m ρ) = iprop((bigSep Finset.univ fun ck : Dev nD × Fin 3 => roundState EX (plan m ρ) (kcell ck) 0)
      ∗ ((bigSep Finset.univ fun ck : Dev nD × Fin 3 => (atPos EX (kcell ck) 0 ∅ 0 : sProp 𝕄)) ∗ (bigSep Finset.univ fun ck : Dev nD × Fin 3 => dutyTok EX (kcell ck) 0 ()))
      ∗ bigSep Finset.univ fun ck : Dev nD × Fin 3 => reached EX (kcell ck) 0) := by
    rw [← bigSep_sep', ← bigSep_sep', ← bigSep_sep', bigSep_univ_prod]
    exact bigSep_congr fun c _ => by unfold G; rw [← bigSep_sep']; rfl
  rw [hG]
  iintro HX
  imod (Rounds.fund EX (plan m ρ) allCells allToks) $$ HX with ⟨Hst, Hr, Hat, Htok⟩
  imodintro
  ihave Hst := (Entails.of_eq (hC fun g => roundState EX (plan m ρ) g 0)) $$ Hst
  ihave Hat := (Entails.of_eq (hC fun g => atPos EX g 0 ∅ 0)) $$ Hat
  ihave Hr := (Entails.of_eq (hC fun g => reached EX g 0)) $$ Hr
  ihave Htok := (Entails.of_eq hT) $$ Htok
  isplitl [Hst]; · iexact Hst
  isplitl [Hat Htok]
  · isplitl [Hat] <;> iassumption
  iexact Hr

/-- A device's two own semaphores and its barrier, each at zero, are its three cells. -/
theorem own_zero (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
theorem bar_zero (c : Dev nD) : (unscopedSems0 c : sProp 𝕄) = semVal (barCell c) 0 := by
  unfold unscopedSems0; rw [bigSep_eq_bigSepL_of_eq [SemLoc.reg barS] (by decide) (by decide)]; rfl

/-- Allocating one device's invariants. -/
theorem allocate (c : Dev nD) :
    iprop(Pipeline.ownSems0 (Ix := Unit) (Name := ℕ) (U := UU) (Lvl := ℕ) (Val := Elt F) (τ := τ) osem c ∗ unscopedSems0 c ∗ G m ρ c)
      ⊢ |={Set.univ}=> bigSep Finset.univ fun k : Fin 3 => iprop((∃ κ : ℕ, cellInv EX (plan m ρ) κ (kcell (c, k))) ∗ dealt (c, k)) := by
  unfold G
  rw [own_zero, bar_zero, bigSep_sep']
  iintro ⟨⟨HS, HR⟩, HB, Hst, Hd⟩
  imod (show iprop((bigSep Finset.univ fun k : Fin 3 => semVal (kcell (c, k)) 0) ∗ bigSep Finset.univ fun k : Fin 3 => roundState EX (plan m ρ) (kcell (c, k)) 0)
      ⊢ (|={Set.univ}=> bigSep Finset.univ fun k => iprop(∃ κ : ℕ, cellInv EX (plan m ρ) κ (kcell (c, k))) : sProp 𝕄) from by
        rw [← bigSep_sep']
        exact (bigSep_mono fun k _ => (Rounds.body_intro EX (plan m ρ) (kcell (c, k))).trans inv_alloc).trans (bigSep_fupd _ _)) $$ [HS HR HB Hst] with Hinv
  · isplitr [Hst]
    · rw [three]
      isplitl [HB]; · iexact HB
      isplitl [HS] <;> iassumption
    · iexact Hst
  imodintro
  isplitl [Hinv] <;> iassumption

/-! ## Dealing -/

/-- What any device may use: every invariant, and that every cell's round 0 is reached. -/
def common (K : Dev nD × Fin 3 → ℕ) : sProp 𝕄 :=
  iprop((bigSep Finset.univ fun ck : Dev nD × Fin 3 => cellInv EX (plan m ρ) (K ck) (kcell ck)) ∗ bigSep Finset.univ fun ck : Dev nD × Fin 3 => reached EX (kcell ck) 0)
instance common_persistent (K : Dev nD × Fin 3 → ℕ) : BI.Persistent (common m ρ K) := by unfold common; infer_instance

theorem common_inv (K : Dev nD × Fin 3 → ℕ) (ck : Dev nD × Fin 3) : common m ρ K ⊢ cellInv EX (plan m ρ) (K ck) (kcell ck) := by
  unfold common; exact sep_elim_left.trans (bigSep_elim (Finset.mem_univ ck))
theorem common_reached (K : Dev nD × Fin 3 → ℕ) (ck : Dev nD × Fin 3) : common m ρ K ⊢ reached EX (kcell ck) 0 := by
  unfold common; exact sep_elim_right.trans (bigSep_elim (Finset.mem_univ ck))

/-- The rights to pay that are a device's own. -/
def pays (c : Dev nD) : sProp 𝕄 :=
  iprop(dutyTok EX (barCell (pt c)) 0 () ∗ dutyTok EX (sendCell c) 0 () ∗ dutyTok EX (recvCell (pt c)) 0 ())

theorem device_intro (K : Dev nD × Fin 3 → ℕ) (c : Dev nD) : iprop(common m ρ K ∗ places c ∗ pays c) ⊢ G' m ρ c := by
  unfold G' rooms rights pays
  iintro ⟨#H, Hp, Ht⟩
  iexists K
  isplitr
  · isplitr
    · isplitr; · iapply (common_inv m ρ K (c, 0)); iexact H
      isplitr; · iapply (common_inv m ρ K (c, 1)); iexact H
      iapply (common_inv m ρ K (c, 2)); iexact H
    isplitr; · iapply (common_inv m ρ K (pt c, 0)); iexact H
    iapply (common_inv m ρ K (pt c, 2)); iexact H
  isplitl [Hp]; · iexact Hp
  isplitr
  · isplitr; · iapply (common_reached m ρ K (pt c, 0)); iexact H
    isplitr; · iapply (common_reached m ρ K (c, 1)); iexact H
    isplitr; · iapply (common_reached m ρ K (c, 2)); iexact H
    iapply (common_reached m ρ K (pt c, 2)); iexact H
  iexact Ht

/-- The rights go across: those of a barrier and a receive cell to the partner. -/
theorem deal : (bigSep Finset.univ fun c : Dev nD => bigSep Finset.univ fun k : Fin 3 => (dutyTok EX (kcell (c, k)) 0 () : sProp 𝕄))
    = bigSep Finset.univ fun c : Dev nD => pays c := by
  unfold pays
  rw [bigSep_congr (s := Finset.univ) fun (c : Dev nD) _ => three fun k : Fin 3 => (dutyTok EX (kcell (c, k)) 0 () : sProp 𝕄),
    bigSep_sep', bigSep_sep', bigSep_sep', bigSep_sep',
    bigSep_univ_equiv across (fun c : Dev nD => (dutyTok EX (kcell (c, 0)) 0 () : sProp 𝕄)),
    bigSep_univ_equiv across (fun c : Dev nD => (dutyTok EX (kcell (c, 2)) 0 () : sProp 𝕄))]
  rfl

theorem regroup :
    (bigSep Finset.univ fun c : Dev nD => bigSep Finset.univ fun k : Fin 3 => iprop((∃ κ : ℕ, cellInv EX (plan m ρ) κ (kcell (c, k))) ∗ dealt (c, k)) : sProp 𝕄)
      ⊢ bigSep Finset.univ (G' m ρ) := by
  have e : (bigSep Finset.univ fun c : Dev nD => bigSep Finset.univ fun k : Fin 3 => iprop((∃ κ : ℕ, cellInv EX (plan m ρ) κ (kcell (c, k))) ∗ dealt (c, k)) : sProp 𝕄)
      = iprop((bigSep Finset.univ fun ck : Dev nD × Fin 3 => iprop(∃ κ : ℕ, cellInv EX (plan m ρ) κ (kcell ck)))
        ∗ ((bigSep Finset.univ fun c : Dev nD => places c) ∗ (bigSep Finset.univ fun c : Dev nD => pays c))
        ∗ bigSep Finset.univ fun ck : Dev nD × Fin 3 => reached EX (kcell ck) 0) := by
    rw [← bigSep_univ_prod (fun ck : Dev nD × Fin 3 => iprop((∃ κ : ℕ, cellInv EX (plan m ρ) κ (kcell ck)) ∗ dealt ck))]
    unfold dealt
    rw [bigSep_sep', bigSep_sep', bigSep_sep', ← deal,
      bigSep_univ_prod (fun ck : Dev nD × Fin 3 => (atPos EX (kcell ck) 0 ∅ 0 : sProp 𝕄)),
      bigSep_univ_prod (fun ck : Dev nD × Fin 3 => (dutyTok EX (kcell ck) 0 () : sProp 𝕄)),
      bigSep_congr (s := Finset.univ) fun (c : Dev nD) _ => three fun k : Fin 3 => (atPos EX (kcell (c, k)) 0 ∅ 0 : sProp 𝕄)]
    rfl
  rw [e]
  iintro ⟨HI, ⟨Hp, Ht⟩, #HR⟩
  ihave HK := (BI.bigSep_exists_pi Finset.univ (fun (ck : Dev nD × Fin 3) (κ : ℕ) => (cellInv EX (plan m ρ) κ (kcell ck) : sProp 𝕄))) $$ HI
  icases HK with ⟨%K, #HI⟩
  iapply (show iprop(common m ρ K ∗ bigSep Finset.univ fun c : Dev nD => iprop(places c ∗ pays c)) ⊢ bigSep Finset.univ (G' m ρ) from
    (sep_mono_left (BI.bigSep_of_persistent Finset.univ (common m ρ K))).trans (by
      rw [← bigSep_sep']; exact bigSep_mono fun c _ => device_intro m ρ K c))
  isplitr
  · unfold common; isplitl; · iexact HI
    iexact HR
  · rw [bigSep_sep']
    isplitl [Hp] <;> iassumption

theorem everywhere : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => allocate m ρ c).trans (bigSep_fupd _ _)).trans (BI.fupd_mono (regroup m ρ))

/-! ## The credit at the launch -/

theorem kcell_eq_iff {a b : Dev nD} {k l : Fin 3} : kcell (a, k) = kcell (b, l) ↔ a = b ∧ k = l :=
  ⟨fun h => ⟨congrArg Prod.fst (kcell_inj h), congrArg Prod.snd (kcell_inj h)⟩, fun ⟨h, h'⟩ => by rw [h, h']⟩

/-- Cell `(c, k)` is owed by `c`'s partner alone: a unit if a barrier, a slot's credit if a receive cell. -/
theorem debt_apply (d c : Dev nD) (k : Fin 3) (hk : k ≠ 1) : debt d (kcell (c, k)) () = if d = pt c then worth (some k) else 0 := by
  have hp : ∀ l : Fin 3, (tallyAt (kcell (pt d, l)) () (worth (some l)) : CellTallies nD τ sig Unit) (kcell (c, k)) () = if d = pt c ∧ k = l then worth (some l) else 0 := fun l => by
    rw [tallyAt_apply]
    refine if_congr ⟨fun h => ?_, fun h => ?_⟩ rfl rfl
    · obtain ⟨h1, h2⟩ := kcell_eq_iff.mp h.1
      exact ⟨by rw [h1, pt_pt], h2⟩
    · exact ⟨by rw [h.1, h.2, pt_pt], rfl⟩
  have e : debt d = (tallyAt (kcell (pt d, 2)) () (worth (some 2)) : CellTallies nD τ sig Unit) + tallyAt (kcell (pt d, 0)) () (worth (some 0)) := rfl
  rw [e, Pi.add_apply, Finsupp.add_apply, hp, hp]
  by_cases h : d = pt c
  · rw [if_pos h]
    match k with
    | 0 => rw [if_neg (fun h => absurd h.2 (by decide)), if_pos ⟨h, rfl⟩, Nat.zero_add]
    | 1 => exact absurd rfl hk
    | 2 => rw [if_pos ⟨h, rfl⟩, if_neg (fun h => absurd h.2 (by decide)), Nat.add_zero]
  · rw [if_neg h, if_neg (fun h' => h h'.1), if_neg (fun h' => h h'.1)]

theorem credit_at (c : Dev nD) (k : Fin 3) (hk : k ≠ 1) :
    tallyOn (kcell (c, k)) (launchCredit (Pipeline.owing debt) 0 (kcell (c, k))) = (tallyAt (kcell (c, k)) () (worth (some k)) : CellTallies nD τ sig Unit) := by
  unfold tallyAt; refine congrArg _ (Finsupp.ext fun u => ?_); cases u
  rw [Pipeline.launchCredit_owing, Finsupp.single_eq_same, Finset.sum_congr rfl fun d _ => debt_apply d c k hk,
    Finset.sum_ite_eq' Finset.univ (pt c) fun _ => worth (some k), if_pos (Finset.mem_univ _)]

theorem credits (c : Dev nD) : (Pipeline.launchCred debt c : sProp 𝕄) ⊢ iprop(cred (tallyAt (barCell c) () 1) ∗ cred (tallyAt (recvCell c) () N)) := by
  have h0 := credit_at c 0 (by decide)
  have h2 := credit_at c 2 (by decide)
  unfold Pipeline.launchCred
  rw [bigSep_univ_at _ (csem 0)]
  refine BI.sep_mono (Entails.of_eq (congrArg cred h0)) ?_
  exact (bigSep_elim (Finset.mem_erase.mpr ⟨by decide, Finset.mem_univ (csem 2)⟩)).trans (Entails.of_eq (congrArg cred h2))

/-! ## The run -/

/-- What the region starts from, the scratch apart. -/
def start (c : Dev nD) : sProp 𝕄 :=
  iprop(G' m ρ c ∗ cred (tallyAt (barCell c) () 1) ∗ cred (tallyAt (recvCell c) () N) ∗ levAts Lix lev)

theorem start_intro (c : Dev nD) :
    iprop(Pipeline.unscopedRestP Pipeline.Prefetch.none cfg0.spec c (fun b => m ((c : Thread nD τ).loc b)) ∗ levAts Lix lev
        ∗ Pipeline.launchCred debt c ∗ prngReg c (ρ c) ∗ G' m ρ c)
      ⊢ |={Set.univ}=> iprop(start m ρ c ∗ emp) := by
  iintro ⟨-, Hlev, Hcr, -, HG⟩
  ihave Hc := (credits (F := F) c) $$ Hcr
  icases Hc with ⟨HB, HR⟩
  imodintro
  unfold start
  isplitl
  · isplitl [HG]; · iexact HG
    isplitl [HB]; · iexact HB
    isplitl [HR] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φin m ρ c from rfl, scopedRest0_eq]
  unfold start Φin G'
  iintro ⟨⟨HG, Hr⟩, -, Hs⟩
  isplitl [HG]; · iexact HG
  isplitl [Hr] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φout m ρ c from rfl, scopedRest0_eq, own_zero, bar_zero]
  unfold Φout
  iintro ⟨Hkv, HzS, HzR, HzB⟩
  isplitl [HzB]; · iexact HzB
  isplitl [HzS HzR]
  · isplitl [HzS] <;> iassumption
  iexists (kvAll m ρ c); iexact Hkv

/-- The pipeline's own waits lie below all that is owed. -/
theorem stagingWaits (c : Dev nD) : (levAts Lix lev : sProp 𝕄) ⊢ Pipeline.cellsWaits cfgs (dats m ρ) () 0 c :=
  Pipeline.cellsWaits_intro cfgs (dats m ρ) () 0 c fun w s t => by
    refine mayWait_below c _ _ fun g u hg => ?_
    rcases t with ⟨_ | _, ht⟩
    · have h0 : height (.dma (((cfgs 0).win w).sem s)) = 0 := by fin_cases w <;> fin_cases s <;> decide
      rcases debt_at (c := c) hg with rfl | rfl
      · exact ⟨⟨pt c, rfl⟩, by rw [h0]; exact lt_of_lt_of_eq Nat.two_pos height_csem.2.2.symm⟩
      · exact ⟨⟨pt c, rfl⟩, by rw [h0]; exact lt_of_lt_of_eq Nat.one_pos height_csem.1.symm⟩
    · exact absurd hg (Nat.lt_irrefl 0)

/-- A window's array at the end. -/
def finalA (c : Dev nD) (w : Fin cfg0.W) : Buf (Elt F) ((cfg0.win w).arr.view.loc (c : Thread nD τ)) := (dats m ρ 0 c).arrAt w cfg0.N

set_option maxRecDepth 8000 in
/-- On four devices, for any float values, from any memory with zero counters: every fair execution ends, nothing faulting,
    with each array as the pipeline's data say and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := debt) (howed₀ := fun _ => rfl) (howedN := fun _ => rfl)
    (L := Lix) (lv := lev) (hL := Lix_of_ne) (hwaits := stagingWaits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := everywhere m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array at the end holds what it held. -/
theorem finalA_in (c : Dev nD) (w : Fin cfg0.W) (hw : w ≠ 5) : finalA m ρ c w = (s₀ m ρ).mem ((cfg0.win w).arr.view.loc (c : Thread nD τ)) := by
  unfold finalA
  refine (dats (F := F) m ρ 0 c).arrAt_in w ?_ _
  revert hw; fin_cases w
  all_goals first | exact fun _ => rfl | exact fun h => absurd rfl h

/-- The result's one block is its whole array. -/
theorem blk_out (j : S2x128x512.Idx) : (win0_5.blk (0 : Fin 1)).view.emb j = j := by
  funext a
  apply Fin.ext
  fin_cases a <;> exact (Nat.zero_add _).trans (Nat.one_mul _)

/-- The result's array at the end is `outAt`. -/
theorem finalA_out (c : Dev nD) : finalA m ρ c (5 : Fin 6) = outAt m ρ c := by
  unfold finalA
  refine ((dats (F := F) m ρ 0 c).arrAt_succ (5 : Fin 6) t0_0).trans ?_
  rw [if_pos (flush0_5 t0_0)]
  funext j
  have e : ((cfg0.win (5 : Fin 6)).blk t0_0).view.emb j = j := blk_out j
  conv_lhs => rw [← e]
  exact View.write_emb_of_mem _ _ (Finset.mem_univ j)

end Cert.Exchange
-- ==== Proof.Frames.lean ====
/-
# Each program runs to the end and leaves its arguments and counters as they were

The kernel as it stands is the idealized kernel read with the named constant meaning its own bits, so one run serves both.
-/
module

public import proofs.«01_k».proof.Proof.Run
public import proofs.«01_k».proof.Proof.Gen.Kernel
public import proofs.«01_k».proof.Defs

@[expose] public section

noncomputable section

namespace Cert.Exchange

open Idealize.ShloMosaic Idealize.ShloMosaic.TcCoe
open Idealize.SL.Sem

/-- That the arguments are as they were and the counters at zero. -/
abbrev Kept {F : FTy → Type} [FloatOps F]
    (m : (ℓ : Loc Cert.KernelIdeal.nD Cert.KernelIdeal.τ Cert.KernelIdeal.sig) → Buf (Elt F) ℓ) (s : MemSt Cert.KernelIdeal.nD Cert.KernelIdeal.τ Cert.KernelIdeal.sig (Elt F)) : Prop :=
  (∀ c : Dev Cert.KernelIdeal.nD,
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4))
  ∧ s.sem = fun _ => 0

/-- What every run of the idealized kernel's text ends with, at any float values: the result `outAt`, all else kept. -/
theorem run_ends {F : FTy → Type} [FloatOps F] [Named F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v1) = outAt m ρ c) ∧ Kept m r.2) :=
  (θ_run _ _ _).mono (fun r h => ⟨fun c => (h.1 c 5).trans (finalA_out m ρ c), fun c => ⟨(h.1 c 0).trans (finalA_in m ρ c 0 (by decide)),
    (h.1 c 1).trans (finalA_in m ρ c 1 (by decide)), (h.1 c 2).trans (finalA_in m ρ c 2 (by decide)),
    (h.1 c 3).trans (finalA_in m ρ c 3 (by decide)), (h.1 c 4).trans (finalA_in m ρ c 4 (by decide))⟩, h.2⟩) (run_main m ρ)

/-- All else is kept. -/
theorem run_keeps {F : FTy → Type} [FloatOps F] [Named F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => Kept m r.2) :=
  (θ_run _ _ _).mono (fun r h => h.2) (run_ends m ρ)

/-- The idealized kernel's frame. -/
theorem frame_ideal : Cert.quiescent_KernelIdeal := fun m ρ _ => run_keeps (F := Ideal) m ρ

/-- A named constant read as its own bits. -/
@[instance_reducible] def bitsNamed : Named Bits := ⟨fun _ _ {φ} b => FloatOps.ofBits φ b⟩

/-- At that reading the two programs' bodies are one, -/
theorem bodies_eq : Cert.Kernel.defs₀ (F := Bits) = @Cert.KernelIdeal.defs₀ Bits _ bitsNamed _ := by
  unfold Cert.Kernel.defs₀ Cert.KernelIdeal.defs₀
  refine congrArg Defs.onTc ?_
  funext l a
  match l with
  | 0 => rfl
/-- and so are all their functions. -/
theorem tables_eq : Cert.Kernel.defs (F := Bits) = @Cert.KernelIdeal.defs Bits _ bitsNamed _ :=
  congrArg (Pipeline.defs (Cert.KernelIdeal.pcfgs (F := Bits))) bodies_eq

/-- The kernel's frame. -/
theorem frame_kernel : Cert.quiescent_Kernel := fun m ρ _ => by
  have h := @run_keeps Bits _ bitsNamed m ρ
  rw [← tables_eq] at h
  exact h

end Cert.Exchange
-- ==== Proof.Reference.lean ====
/- The reference's run, from the generated one. -/
module

public import proofs.«01_k».proof.Defs
public import proofs.«01_k».proof.Proof.Gen.ReferenceIdeal.Run
public import Idealize.ShloMosaic.Lib.Quiescent

@[expose] public section

noncomputable section

namespace Cert.Plain

open Idealize.ShloMosaic Idealize.SL.Sem

/-- The reference's frame: its arguments end unchanged, and it has no semaphore to leave at anything but zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Plain

end
-- ==== Proof.Softmax.lean ====
/-
# A masked softmax over the extended reals

The scores of one row are real where the row sees the key and `⊥` where it does not. Subtracting a real from every score
before taking exponentials changes no normalised weight, and a key that is not seen weighs nothing, whatever its value is.
-/
module

public import Idealize.ShloMosaic.PureOps.Ideal

@[expose] public section

noncomputable section

namespace Cert.Softmax

open Idealize.ShloMosaic

variable {ι : Type*} [Fintype ι]

/-- A row's scores: `σ` where the key is seen, `⊥` elsewhere. -/
def masked (keep : ι → Prop) [DecidablePred keep] (σ : ι → EReal) (j : ι) : EReal := if keep j then σ j else ⊥

/-- One entry of the attention's context: the values weighted by the exponentials of the scores, over the weights' sum. -/
def attend (s v : ι → EReal) : EReal := (∑ j, Ideal.exp (s j) * v j) * Ideal.div 1 (∑ j, Ideal.exp (s j))

/-- The same with every score lowered by `M` first and each weight normalised before it meets its value. -/
def attendBy (M : EReal) (s v : ι → EReal) : EReal :=
  ∑ j, v j * Ideal.div (Ideal.exp (s j - M)) (∑ k, Ideal.exp (s k - M))

theorem masked_congr {keep keep' : ι → Prop} [DecidablePred keep] [DecidablePred keep'] {σ σ' : ι → EReal}
    (h : ∀ j, keep j ↔ keep' j) (hσ : ∀ j, σ j = σ' j) : masked keep σ = masked keep' σ' :=
  funext fun j => by unfold masked; simp only [h j, hσ j]

/-- A finite sum of reals is the real sum. -/
theorem sum_coe (f : ι → ℝ) : ∑ j, (f j : EReal) = ((∑ j, f j : ℝ) : EReal) :=
  (map_sum (⟨⟨Real.toEReal, rfl⟩, EReal.coe_add⟩ : ℝ →+ EReal) f Finset.univ).symm

/-- A nonnegative real factor goes into a finite sum of extended reals. -/
theorem sum_mul_coe (f : ι → EReal) {r : ℝ} (hr : 0 ≤ r) : (∑ j, f j) * (r : EReal) = ∑ j, f j * (r : EReal) := by
  classical
  induction (Finset.univ : Finset ι) using Finset.induction_on with
  | empty => simp
  | insert a s ha ih =>
    rw [Finset.sum_insert ha, Finset.sum_insert ha, ← ih]
    exact EReal.right_distrib_of_nonneg_of_ne_top (by exact_mod_cast hr) (EReal.coe_ne_top r) _ _

variable {keep : ι → Prop} [DecidablePred keep]

/-- The largest of a row's scores is real when one key is seen. -/
theorem fold_max_real (σ : ι → ℝ) (h : ∃ j, keep j) :
    ∃ M : ℝ, (Finset.univ : Finset ι).fold max ⊥ (masked keep fun j => (σ j : EReal)) = (M : EReal) := by
  have e : (Finset.univ : Finset ι).fold max ⊥ (masked keep fun j => (σ j : EReal))
      = Finset.univ.sup (masked keep fun j => (σ j : EReal)) := rfl
  obtain ⟨j, hj⟩ := h
  have hb : (Finset.univ.sup (masked keep fun j => (σ j : EReal))) ≠ ⊥ := by
    intro h0
    have := Finset.le_sup (f := masked keep fun j => (σ j : EReal)) (Finset.mem_univ j)
    rw [h0, masked, if_pos hj, le_bot_iff] at this
    exact EReal.coe_ne_bot _ this
  have ht : (Finset.univ.sup (masked keep fun j => (σ j : EReal))) ≠ ⊤ := by
    refine ne_of_lt ((Finset.sup_lt_iff (by simp)).2 fun i _ => ?_)
    unfold masked; split
    · exact EReal.coe_lt_top _
    · simp
  exact ⟨_, e.trans (EReal.coe_toReal ht hb).symm⟩

/-- What a score weighs: a real. -/
theorem exp_masked (σ : ι → ℝ) (M : ℝ) (j : ι) :
    Ideal.exp (masked keep (fun j => (σ j : EReal)) j - (M : EReal)) = ((if keep j then Real.exp (σ j) else 0) * Real.exp (-M) : ℝ) := by
  unfold masked
  by_cases h : keep j
  · rw [if_pos h, if_pos h, ← EReal.coe_sub, Ideal.exp_coe, ← Real.exp_add, sub_eq_add_neg]
  · rw [if_neg h, if_neg h]; simp

/-- Lowering every score by a real and normalising each weight first changes nothing. -/
theorem attendBy_eq (σ : ι → ℝ) (v : ι → EReal) (M : ℝ) (h : ∃ j, keep j) :
    attendBy (M : EReal) (masked keep fun j => (σ j : EReal)) v = attend (masked keep fun j => (σ j : EReal)) v := by
  let p : ι → ℝ := fun j => if keep j then Real.exp (σ j) else 0
  have hp : ∀ j, 0 ≤ p j := fun j => by dsimp only [p]; split <;> positivity
  have hP : 0 < ∑ j, p j := by
    obtain ⟨j, hj⟩ := h
    exact Finset.sum_pos' (fun j _ => hp j) ⟨j, Finset.mem_univ _, by simp only [p, if_pos hj]; positivity⟩
  have h0 : ∀ j, Ideal.exp (masked keep (fun j => (σ j : EReal)) j) = (p j : EReal) := fun j => by
    have := exp_masked (keep := keep) σ 0 j
    simpa [p] using this
  have hM : ∀ j, Ideal.exp (masked keep (fun j => (σ j : EReal)) j - (M : EReal)) = (p j * Real.exp (-M) : ℝ) := exp_masked σ M
  unfold attendBy attend
  simp only [h0, hM, sum_coe]
  rw [← Finset.sum_mul, Ideal.div_coe hP.ne', one_mul, sum_mul_coe _ (by positivity)]
  refine Finset.sum_congr rfl fun j _ => ?_
  have he := Real.exp_pos (-M)
  rw [Ideal.div_coe (by positivity), ← EReal.coe_mul, mul_comm (p j : EReal) (v j), mul_assoc (v j), ← EReal.coe_mul]
  congr 2
  field_simp

/-- A row's context needs only a set of keys that holds all those seen. -/
theorem attend_reindex {κ : Type*} [Fintype κ] (g : κ → ι) (hg : Function.Injective g) (hk : ∀ j, keep j → j ∈ Set.range g)
    (σ v : ι → EReal) :
    attend (masked keep σ) v = attend (masked (fun k => keep (g k)) fun k => σ (g k)) fun k => v (g k) := by
  have off : ∀ j ∉ Set.range g, Ideal.exp (masked keep σ j) = 0 := fun j hj => by
    rw [masked, if_neg (fun h => hj (hk j h)), Ideal.exp_bot]
  unfold attend
  rw [← Fintype.sum_of_injective g hg (fun k => Ideal.exp (masked (fun k => keep (g k)) (fun k => σ (g k)) k)) _ off (fun _ => rfl),
    ← Fintype.sum_of_injective g hg (fun k => Ideal.exp (masked (fun k => keep (g k)) (fun k => σ (g k)) k) * v (g k)) _
      (fun j hj => by rw [off j hj, zero_mul]) (fun _ => rfl)]

end Cert.Softmax

end
-- ==== Proof.Heads.lean ====
/-
# One head of the kernel, at an index

The kernel computes its eight heads by the same operations: `headOf`. Read at an index, a head is the masked softmax of its
scores against its values.
-/
module

public import proofs.«01_k».proof.Proof.Body
public import proofs.«01_k».proof.Proof.Softmax
public import Idealize.ShloMosaic.Lib.Pointwise
public import Idealize.ShloMosaic.PureOps.IdealRules

@[expose] public section

noncomputable section

namespace Cert.Heads

open Cert.KernelIdeal Cert.KernelIdeal.Gen
open Idealize.ShloMosaic Cert.Softmax Cert.Exchange

/-- One head: queries `q`, the mask `w`, the keys `k` and the values `v` of both slots. -/
def headOf (w : IVec S128x256 1) (q : FVec Ideal S128x64 .bf16) (k v : Vec Ideal S2x1x128x64 .bf16) : FVec Ideal S128x64 .bf16 :=
  have rows (y : Vec Ideal S2x1x128x64 .bf16) : FVec Ideal S256x64 .bf16 :=
    shapeCast S256x64 (shapeCast S2x128x64 y shapeCasts_S2x1x128x64_S2x128x64) shapeCasts_S2x128x64_S256x64
  have s : FVec Ideal S128x256 .f32 := matmul dot_S128x64_S256x64_S128x256_1_1_0_0_n_n none q (rows k) (constant S128x256 .f32 0x00000000#32)
  have e : FVec Ideal S128x256 .f32 := exp (select w s (broadcast S128x256 (Named.named κ "mask" 0xCE6E6B28#32)))
  have total : FVec Ideal S128x1 .f32 := shapeCast S128x1 (multiReduction .add [1] S128 e 0x00000000#32 reduces_S128x256_S128 (.inl rfl) rfl) shapeCasts_S128_S128x1
  have c : FVec Ideal S128x64 .f32 := matmul dot_S128x256_S256x64_S128x64_1_0_0_1_n_n none (truncf .bf16 e bitsLt_bf16_f32) (rows v) (constant S128x64 .f32 0x00000000#32)
  truncf .bf16 (mulf c (broadcastTo S128x64 (divf (broadcast S128x1 (Scalar.ofBits .f32 0x3F800000#32)) total) broadcasts_S128x1_S128x64)) bitsLt_bf16_f32

/-- The mask's named constant is `⊥`. -/
theorem named_mask : (Named.named κ "mask" 0xCE6E6B28#32 : Ideal .f32) = (⊥ : EReal) := IdealRules.named_const.ideal_named_scalar _ _ _ _ rfl

/-- The column of a slot's row that key `j` of the 256 is. -/
abbrev slot (j : Fin 256) : Fin 2 := ⟨j.val / 128, by omega⟩
abbrev row (j : Fin 256) : Fin 128 := ⟨j.val % 128, by omega⟩

theorem headOf_apply (w : IVec S128x256 1) (q : FVec Ideal S128x64 .bf16) (k v : Vec Ideal S2x1x128x64 .bf16) (r : Fin 128) (d : Fin 64) :
    headOf w q k v (ix2 r d) = attend (masked (fun j : Fin 256 => w (ix2 r j) = 1#1)
      (fun j => ∑ e : Fin 64, q (ix2 r e) * k (ix4 (slot j) 0 (row j) e))) (fun j => v (ix4 (slot j) 0 (row j) d)) := by
  pointwise [headOf]
  rw [named_mask]
  rfl

end Cert.Heads

end
-- ==== Proof.Spec.lean ====
/-
# The function both programs compute

Attention over the whole arrays: four heads of 64 columns, 512 positions in blocks of 64, a position seeing those of the
same residue of block number modulo 4. No pass over the scores for their maximum and no normalised weights: both programs
are brought to this form.
-/
module

public import proofs.«01_k».proof.Proof.Softmax
public import Idealize.ShloMosaic.Lib.Pointwise.Index

@[expose] public section

noncomputable section

namespace Cert.Spec

open Idealize.ShloMosaic Cert.Softmax

/-- `x`, `K_ext` (and `V_ext`), `Wq` and `Wo`, whole. -/
abbrev Acts : Type := (⟨3, ![2, 512, 512]⟩ : Shape).Idx → EReal
abbrev Heads : Type := (⟨4, ![2, 512, 4, 64]⟩ : Shape).Idx → EReal
abbrev Down : Type := (⟨2, ![512, 256]⟩ : Shape).Idx → EReal
abbrev Up : Type := (⟨2, ![256, 512]⟩ : Shape).Idx → EReal

/-- Entries that are real. -/
def Reals {s : Shape} (f : s.Idx → EReal) : Prop := ∀ i, ∃ r : ℝ, f i = (r : EReal)

/-- Column `d` of head `h` among the 256, -/
abbrev at256 (h : Fin 4) (d : Fin 64) : Fin 256 := ⟨64 * h.val + d.val, by omega⟩
/-- the head of a column, -/
abbrev hd (t : Fin 256) : Fin 4 := ⟨t.val / 64, by omega⟩
/-- and where in it the column lies. -/
abbrev lane (t : Fin 256) : Fin 64 := ⟨t.val % 64, by omega⟩

/-- Position `R` sees position `J`. -/
abbrev sees (R J : Fin 512) : Prop := J.val / 64 % 4 = R.val / 64 % 4

section
variable (X : Acts) (W : Down) (K V : Heads) (O : Up)

/-- The queries. -/
def query (b : Fin 2) (R : Fin 512) (t : Fin 256) : EReal := ∑ i : Fin 512, X (ix3 b R i) * W (ix2 i t)
/-- The scores, scaled by an eighth. -/
def score (b : Fin 2) (h : Fin 4) (R J : Fin 512) : EReal :=
  (∑ e : Fin 64, query X W b R (at256 h e) * K (ix4 b J h e)) * ((1 / 8 : ℝ) : EReal)
/-- One head's context. -/
def context (b : Fin 2) (h : Fin 4) (R : Fin 512) (d : Fin 64) : EReal :=
  attend (masked (sees R) (score X W K b h R)) fun J => V (ix4 b J h d)
/-- The result. -/
def result (b : Fin 2) (R : Fin 512) (n : Fin 512) : EReal :=
  ∑ t : Fin 256, context X W K V b (hd t) R (lane t) * O (ix2 t n)
end

end Cert.Spec

end
-- ==== Proof.Result.lean ====
/-
# The kernel's result, from its queries and its scratch

Each head is the masked softmax of the scores of its queries and the keys in the scratch; the heads side by side, both batches,
times `Wo` are the result.
-/
module

public import proofs.«01_k».proof.Proof.Heads
public import proofs.«01_k».proof.Proof.Spec

@[expose] public section

noncomputable section

namespace Cert.Heads

open Cert.KernelIdeal Cert.KernelIdeal.Gen
open Idealize.ShloMosaic Cert.Softmax Cert.Exchange Cert.Spec
/-- Four heads side by side, -/
def side (h0 h1 h2 h3 : FVec Ideal S128x64 .bf16) : FVec Ideal S128x256 .bf16 :=
  concatenate S128x256 1 [⟨S128x64, h0⟩, ⟨S128x64, h1⟩, ⟨S128x64, h2⟩, ⟨S128x64, h3⟩] concatenates_S128x64_S128x64_S128x64_S128x64_S128x256_d1
/-- and the two batches' contexts times `wo`. -/
def project (c0 c1 : FVec Ideal S128x256 .bf16) (wo : FVec Ideal S256x512 .bf16) : FVec Ideal S2x128x512 .f32 :=
  shapeCast S2x128x512 (matmul (φ₂ := .bf16) dot_S256x256_S256x512_S256x512_1_0_0_1_n_n none
    (concatenate S256x256 0 [⟨S128x256, c0⟩, ⟨S128x256, c1⟩] concatenates_S128x256_S128x256_S256x256_d0)
    (shapeCast S256x512 wo shapeCasts_S256x512_S256x512) (constant S256x512 .f32 0x00000000#32)) shapeCasts_S256x512_S2x128x512

theorem side_apply (h0 h1 h2 h3 : FVec Ideal S128x64 .bf16) (f : Fin 4 → Fin 64 → EReal) (r : Fin 128)
    (e0 : ∀ d, h0 (ix2 r d) = f 0 d) (e1 : ∀ d, h1 (ix2 r d) = f 1 d) (e2 : ∀ d, h2 (ix2 r d) = f 2 d) (e3 : ∀ d, h3 (ix2 r d) = f 3 d)
    (t : Fin 256) : side h0 h1 h2 h3 (ix2 r t) = f (hd t) (lane t) := by
  pointwise [side]
  simp only [e0, e1, e2, e3]
  have := t.isLt
  split
  · congr 1 <;> apply Fin.ext <;> simp <;> omega
  split
  · congr 1 <;> apply Fin.ext <;> simp <;> omega
  split
  · congr 1 <;> apply Fin.ext <;> simp <;> omega
  · congr 1 <;> apply Fin.ext <;> simp <;> omega

theorem project_apply (c0 c1 : FVec Ideal S128x256 .bf16) (wo : FVec Ideal S256x512 .bf16) (f : Fin 2 → Fin 128 → Fin 256 → EReal)
    (e0 : ∀ r t, c0 (ix2 r t) = f 0 r t) (e1 : ∀ r t, c1 (ix2 r t) = f 1 r t) (b : Fin 2) (r : Fin 128) (n : Fin 512) :
    project c0 c1 wo (ix3 b r n) = ∑ t, f b r t * wo (ix2 t n) := by
  pointwise [project]
  simp only [e0, e1]
  have := r.isLt
  refine Finset.sum_congr rfl fun t _ => congrArg (· * wo (ix2 t n)) ?_
  rcases (show b = 0 ∨ b = 1 by omega) with rfl | rfl
  · rw [dif_pos (by simp)]; congr 1; apply Fin.ext; simp
  · rw [dif_neg (by simp)]; congr 1; apply Fin.ext; simp

/-- Device `c`'s queries at row `r` of batch `b`. -/
abbrev row2 (b : Fin 2) (r : Fin 128) : Fin 256 := ⟨128 * b.val + r.val, by omega⟩

variable (m : (ℓ : Loc nD τ sig) → Buf (Elt Ideal) ℓ) (ρ : Dev nD → PrngReg) (c : Dev nD)

/-- Head `h` of batch `b` on device `c`, from its queries and its scratch. -/
def head (b : Fin 2) (h : Fin 4) (r : Fin 128) (d : Fin 64) : EReal :=
  attend (masked (fun j : Fin 256 => seen (ix2 r j) = 1#1)
    (fun j => ∑ e : Fin 64, queries m ρ c (ix2 (row2 b r) (at256 h e)) * kvAll m ρ c (ix4 (slot j) b (row j) ⟨64 * h.val + e.val, by omega⟩)))
    (fun j => kvAll m ρ c (ix4 (slot j) b (row j) ⟨256 + 64 * h.val + d.val, by omega⟩))

/-- What a load of 64 columns reads. -/
theorem cols_apply (b : Fin 2) (o : ℕ) (inb) (ho : o + 64 ≤ 512) (s : Fin 2) (r : Fin 128) (e : Fin 64) :
    cols m ρ c b.val o inb (ix4 s 0 r e) = kvAll m ρ c (ix4 s b r ⟨o + e.val, by omega⟩) := by
  have h : (Rect.unit (s := S2x2x128x512) ![0, b.val, 0, o] S2x1x128x64.size inb).emb (ix4 s 0 r e) = ix4 s b r ⟨o + e.val, by omega⟩ := by
    funext a; apply Fin.ext; rw [Rect.emb_apply]
    fin_cases a <;> simp
  exact congrArg (kvAll m ρ c) h

theorem head_of (b : Fin 2) (h : Fin 4) (Q : FVec Ideal S128x64 .bf16) (k v : ℕ) (ik iv) (hk : k = 64 * h.val) (hv : v = 256 + 64 * h.val)
    (hQ : ∀ (r : Fin 128) (e : Fin 64), Q (ix2 r e) = queries m ρ c (ix2 (row2 b r) (at256 h e))) (r : Fin 128) (d : Fin 64) :
    headOf seen Q (cols m ρ c b.val k ik) (cols m ρ c b.val v iv) (ix2 r d) = head m ρ c b h r d := by
  subst hk hv
  rw [headOf_apply, head]
  simp only [hQ, cols_apply m ρ c b _ ik (by omega), cols_apply m ρ c b _ iv (by omega)]

/-- The 128 by 64 slice of the queries that a head reads. -/
theorem slice_at (Q : FVec Ideal S256x256 .bf16) (b : Fin 2) (h : Fin 4) (o : Fin 2 → ℕ) (hs : S256x256.Slices o S128x64)
    (h0 : o 0 = 128 * b.val) (h1 : o 1 = 64 * h.val) (r : Fin 128) (e : Fin 64) :
    extractStridedSlice S128x64 o Q hs (ix2 r e) = Q (ix2 (row2 b r) (at256 h e)) := by
  refine congrArg Q ?_
  funext a; apply Fin.ext
  fin_cases a
  · exact congrArg (· + r.val) h0
  · exact congrArg (· + e.val) h1

theorem hz2 : (![0, 0] : Fin 2 → Nat) = fun _ => 0 := funext fun a => by fin_cases a <;> rfl

/-! The kernel's heads are all of them `headOf`. -/

theorem head00_eq : head00 m ρ c = headOf seen (extractStridedSlice S128x64 ![0, 0] (queries m ρ c) slices_S256x256_o0_0_S128x64) (cols m ρ c 0 0 inb_S2x2x128x512_S2x1x128x64_0_0_0_0) (cols m ρ c 0 256 inb_S2x2x128x512_S2x1x128x64_0_0_0_256) := rfl
theorem head01_eq : head01 m ρ c = headOf seen (extractStridedSlice S128x64 ![0, 64] (queries m ρ c) slices_S256x256_o0_64_S128x64) (cols m ρ c 0 64 inb_S2x2x128x512_S2x1x128x64_0_0_0_64) (cols m ρ c 0 320 inb_S2x2x128x512_S2x1x128x64_0_0_0_320) := rfl
theorem head02_eq : head02 m ρ c = headOf seen (extractStridedSlice S128x64 ![0, 128] (queries m ρ c) slices_S256x256_o0_128_S128x64) (cols m ρ c 0 128 inb_S2x2x128x512_S2x1x128x64_0_0_0_128) (cols m ρ c 0 384 inb_S2x2x128x512_S2x1x128x64_0_0_0_384) := rfl
theorem head10_eq : head10 m ρ c = headOf seen (extractStridedSlice S128x64 ![128, 0] (queries m ρ c) slices_S256x256_o128_0_S128x64) (cols m ρ c 1 0 inb_S2x2x128x512_S2x1x128x64_0_1_0_0) (cols m ρ c 1 256 inb_S2x2x128x512_S2x1x128x64_0_1_0_256) := rfl
theorem head11_eq : head11 m ρ c = headOf seen (extractStridedSlice S128x64 ![128, 64] (queries m ρ c) slices_S256x256_o128_64_S128x64) (cols m ρ c 1 64 inb_S2x2x128x512_S2x1x128x64_0_1_0_64) (cols m ρ c 1 320 inb_S2x2x128x512_S2x1x128x64_0_1_0_320) := rfl
theorem head12_eq : head12 m ρ c = headOf seen (extractStridedSlice S128x64 ![128, 128] (queries m ρ c) slices_S256x256_o128_128_S128x64) (cols m ρ c 1 128 inb_S2x2x128x512_S2x1x128x64_0_1_0_128) (cols m ρ c 1 384 inb_S2x2x128x512_S2x1x128x64_0_1_0_384) := rfl
theorem last0_eq (k v : Vec Ideal S2x1x128x64 .bf16) : headOf seen (k0_pay20 (queries m ρ c)) k v = headOf seen (extractStridedSlice S128x64 ![0, 192] (queries m ρ c) slices_S256x256_o0_192_S128x64) k v := rfl
theorem last1_eq (k v : Vec Ideal S2x1x128x64 .bf16) : headOf seen (k0_pay29 (queries m ρ c)) k v = headOf seen (extractStridedSlice S128x64 ![128, 192] (queries m ρ c) slices_S256x256_o128_192_S128x64) k v := rfl

/-- Batch 0's fourth head is computed with its context. -/
theorem pay23_eq (w : IVec S128x256 1) (h0 h1 h2 q : FVec Ideal S128x64 .bf16) (k v : Vec Ideal S2x1x128x64 .bf16) :
    k0_pay23 w h0 h1 h2 q (k0_pay21 k) (k0_pay22 v) (constant S128x256 .f32 0x00000000#32) = side h0 h1 h2 (headOf w q k v) := rfl
/-- Batch 1's is computed with the result. -/
theorem pay1_eq (w : IVec S128x256 1) (c0 : FVec Ideal S128x256 .bf16) (h0 h1 h2 q : FVec Ideal S128x64 .bf16) (k v : Vec Ideal S2x1x128x64 .bf16)
    (wo : Vec Ideal S256x512 .bf16) : k0_pay1 w c0 h0 h1 h2 q k v wo = project c0 (side h0 h1 h2 (headOf w q k v)) wo := rfl

/-- Batch 0's context, -/
theorem batch0_apply (r : Fin 128) (t : Fin 256) : batch0 m ρ c (ix2 r t) = head m ρ c 0 (hd t) r (lane t) := by
  unfold batch0
  rw [pay23_eq, head00_eq, head01_eq, head02_eq, last0_eq]
  exact side_apply _ _ _ _ (fun h d => head m ρ c 0 h r d) r
    (fun d => head_of m ρ c 0 0 (extractStridedSlice S128x64 ![0, 0] (queries m ρ c) slices_S256x256_o0_0_S128x64) 0 256 _ _ rfl rfl (slice_at _ _ _ _ _ rfl rfl) r d)
    (fun d => head_of m ρ c 0 1 (extractStridedSlice S128x64 ![0, 64] (queries m ρ c) slices_S256x256_o0_64_S128x64) 64 320 _ _ rfl rfl (slice_at _ _ _ _ _ rfl rfl) r d)
    (fun d => head_of m ρ c 0 2 (extractStridedSlice S128x64 ![0, 128] (queries m ρ c) slices_S256x256_o0_128_S128x64) 128 384 _ _ rfl rfl (slice_at _ _ _ _ _ rfl rfl) r d)
    (fun d => head_of m ρ c 0 3 (extractStridedSlice S128x64 ![0, 192] (queries m ρ c) slices_S256x256_o0_192_S128x64) 192 448 _ _ rfl rfl (slice_at _ _ _ _ _ rfl rfl) r d)
    t

/-- and batch 1's. -/
def batch1 : FVec Ideal S128x256 .bf16 := side (head10 m ρ c) (head11 m ρ c) (head12 m ρ c) (headOf seen (k0_pay29 (queries m ρ c))
  (cols m ρ c 1 192 inb_S2x2x128x512_S2x1x128x64_0_1_0_192) (cols m ρ c 1 448 inb_S2x2x128x512_S2x1x128x64_0_1_0_448))
theorem batch1_apply (r : Fin 128) (t : Fin 256) : batch1 m ρ c (ix2 r t) = head m ρ c 1 (hd t) r (lane t) := by
  unfold batch1
  rw [head10_eq, head11_eq, head12_eq, last1_eq]
  exact side_apply _ _ _ _ (fun h d => head m ρ c 1 h r d) r
    (fun d => head_of m ρ c 1 0 (extractStridedSlice S128x64 ![128, 0] (queries m ρ c) slices_S256x256_o128_0_S128x64) 0 256 _ _ rfl rfl (slice_at _ _ _ _ _ rfl rfl) r d)
    (fun d => head_of m ρ c 1 1 (extractStridedSlice S128x64 ![128, 64] (queries m ρ c) slices_S256x256_o128_64_S128x64) 64 320 _ _ rfl rfl (slice_at _ _ _ _ _ rfl rfl) r d)
    (fun d => head_of m ρ c 1 2 (extractStridedSlice S128x64 ![128, 128] (queries m ρ c) slices_S256x256_o128_128_S128x64) 128 384 _ _ rfl rfl (slice_at _ _ _ _ _ rfl rfl) r d)
    (fun d => head_of m ρ c 1 3 (extractStridedSlice S128x64 ![128, 192] (queries m ρ c) slices_S256x256_o128_192_S128x64) 192 448 _ _ rfl rfl (slice_at _ _ _ _ _ rfl rfl) r d)
    t

theorem wo_read : woM.view.readAt (Elt Ideal) (Rect.unit (s := S256x512) ![0, 0] S256x512.size inb_S256x512_S256x512_0_0).toLoadRect (woIn m ρ c) = woIn m ρ c :=
  Memref.readAt_unit_zero (Elt Ideal) cc0_stg4_0 hz2 _ (woIn m ρ c)

/-- The result, from the queries, the scratch and `Wo`. -/
theorem outAt_apply (b : Fin 2) (r : Fin 128) (n : Fin 512) :
    outAt m ρ c (ix3 b r n) = ∑ t : Fin 256, head m ρ c b (hd t) r (lane t) * woIn m ρ c (ix2 t n) := by
  unfold outAt
  rw [pay1_eq, wo_read]
  exact project_apply _ _ _ (fun b r t => head m ρ c b (hd t) r (lane t)) (batch0_apply m ρ c) (batch1_apply m ρ c) b r n

end Cert.Heads

end
-- ==== Proof.Consts.lean ====
/-
# The constants' values

The patterns that the two programs and the precondition write, as extended reals.
-/
module

public import Idealize.ShloMosaic.PureOps.Ideal

@[expose] public section

namespace Cert.Consts

open Idealize.ShloMosaic

/-- The scale of the scores. -/
theorem eighth : Ideal.ofBits .f32 0x3E000000#32 = ((1 / 8 : ℝ) : EReal) := by
  simp [Ideal.ofBits, Ideal.ieee, -EReal.coe_mul]; norm_num
/-- What the reference masks with, -/
theorem least : Ideal.ofBits .f32 0xFF800000#32 = ⊥ := by simp [Ideal.ofBits, Ideal.ieee]
/-- and the bound the precondition compares with. -/
theorem greatest : Ideal.ofBits .bf16 0x7F80#16 = ⊤ := by simp [Ideal.ofBits, Ideal.ieee]

end Cert.Consts
-- ==== Proof.KernelValue.lean ====
/-
# The kernel computes the specified function

The staged blocks are the arguments, the scratch holds the partners' keys and values, and the 256 keys at hand hold every
key that a device's rows see.
-/
module

public import proofs.«01_k».proof.Proof.Result
public import proofs.«01_k».proof.Proof.Consts

@[expose] public section

noncomputable section

namespace Cert.Heads

open Cert.KernelIdeal Cert.KernelIdeal.Gen
open Idealize.ShloMosaic Idealize.ShloMosaic.TcCoe Cert.Softmax Cert.Exchange Cert.Spec

/-! ## The mask -/

/-- The row's block number, as the kernel computes it. -/
theorem rowBlock (r : Fin 128) (j : Fin 256) : k0_pay10 (ix2 r j) = BitVec.ofNat 32 (r.val / 64) := by
  pointwise [k0_pay10]
  revert r
  decide +kernel

/-- A row sees a key of its own half. -/
theorem seen_iff (r : Fin 128) (j : Fin 256) : seen (ix2 r j) = 1#1 ↔ j.val / 64 % 2 = r.val / 64 := by
  unfold seen
  pointwise [k0_pay14, k0_pay11, k0_pay12, k0_pay13]
  rw [rowBlock]
  revert r
  revert j
  decide +kernel

variable (m : (ℓ : Loc nD τ sig) → Buf (Elt Ideal) ℓ) (ρ : Dev nD → PrngReg) (c : Dev nD)

/-! ## The staged blocks are the arguments -/

theorem xIn_eq : xIn m ρ c = m ((c : Thread nD τ).loc main_arg0) := by
  refine funext fun i => congrArg (m ((c : Thread nD τ).loc main_arg0)) ?_
  funext a; apply Fin.ext; fin_cases a <;> exact (Nat.zero_add _).trans (Nat.one_mul _)
theorem wqIn_eq : wqIn m ρ c = m ((c : Thread nD τ).loc main_arg1) := by
  refine funext fun i => congrArg (m ((c : Thread nD τ).loc main_arg1)) ?_
  funext a; apply Fin.ext; fin_cases a <;> exact (Nat.zero_add _).trans (Nat.one_mul _)
theorem kIn_eq : kIn m ρ c = m ((c : Thread nD τ).loc main_arg2) := by
  refine funext fun i => congrArg (m ((c : Thread nD τ).loc main_arg2)) ?_
  funext a; apply Fin.ext; fin_cases a <;> exact (Nat.zero_add _).trans (Nat.one_mul _)
theorem vIn_eq : vIn m ρ c = m ((c : Thread nD τ).loc main_arg3) := by
  refine funext fun i => congrArg (m ((c : Thread nD τ).loc main_arg3)) ?_
  funext a; apply Fin.ext; fin_cases a <;> exact (Nat.zero_add _).trans (Nat.one_mul _)
theorem woIn_eq : woIn m ρ c = m ((c : Thread nD τ).loc main_arg4) := by
  refine funext fun i => congrArg (m ((c : Thread nD τ).loc main_arg4)) ?_
  funext a; apply Fin.ext; fin_cases a <;> exact (Nat.zero_add _).trans (Nat.one_mul _)

/-! ## The queries -/

theorem pay9_apply (w : FVec Ideal S512x256 .bf16) (x : FVec Ideal S2x128x512 .bf16) (b : Fin 2) (r : Fin 128) (t : Fin 256) :
    k0_pay9 (k0_pay7 w) (k0_pay8 x) (ix2 (row2 b r) t) = (∑ i : Fin 512, x (ix3 b r i) * w (ix2 i t)) * Ideal.ofBits .f32 0x3E000000#32 := by
  pointwise [k0_pay9, k0_pay7, k0_pay8]
  congr 1
  refine Finset.sum_congr rfl fun i _ => congrArg (· * w (ix2 i t)) (congrArg x ?_)
  have := r.isLt
  congr 1 <;> apply Fin.ext <;> simp <;> omega

/-- The queries of device `c`, from its arguments. -/
theorem queries_apply (x : FVec Ideal S2x128x512 .bf16) (w : FVec Ideal S512x256 .bf16) (hx : xIn m ρ c = x) (hw : wqIn m ρ c = w)
    (b : Fin 2) (r : Fin 128) (t : Fin 256) :
    queries m ρ c (ix2 (row2 b r) t) = (∑ i : Fin 512, x (ix3 b r i) * w (ix2 i t)) * ((1 / 8 : ℝ) : EReal) := by
  subst hx hw
  rw [← Consts.eighth, ← pay9_apply]
  have ex : xM.view.readAt (Elt Ideal) (Rect.unit (s := S2x128x512) ![0, 0, 0] S2x128x512.size inb_S2x128x512_S2x128x512_0_0_0).toLoadRect (xIn m ρ c) = xIn m ρ c :=
    Memref.readAt_unit_zero (Elt Ideal) cc0_stg0_0 hz3 _ (xIn m ρ c)
  have ew : wqM.view.readAt (Elt Ideal) (Rect.unit (s := S512x256) ![0, 0] S512x256.size inb_S512x256_S512x256_0_0).toLoadRect (wqIn m ρ c) = wqIn m ρ c :=
    Memref.readAt_unit_zero (Elt Ideal) cc0_stg1_0 hz2 _ (wqIn m ρ c)
  unfold queries
  rw [ex, ew]

/-! ## The scratch -/

/-- Packing lays the heads' columns side by side. -/
theorem pay2_apply (y : FVec Ideal S1x128x4x64 .bf16) (r : Fin 128) (q : Fin 256) : k0_pay2 (F := Ideal) y (ix4 0 0 r q) = y (ix4 0 r (hd q) (lane q)) := by
  pointwise [k0_pay2]
theorem pay3_eq (y : FVec Ideal S1x128x4x64 .bf16) : k0_pay3 (F := Ideal) y = k0_pay2 y := rfl
theorem pay5_eq (y : FVec Ideal S1x128x4x64 .bf16) : k0_pay5 (F := Ideal) (k0_pay4 y) = k0_pay2 y := rfl
theorem pay6_eq (y : FVec Ideal S1x128x4x64 .bf16) : k0_pay6 (F := Ideal) y = k0_pay2 y := rfl

theorem readK (k : (cc0_stg2_0 : Ref sig .tc).ty.Contents (Elt Ideal)) (b : Fin 2) (inb) (r h d) :
    kvStgK.view.readAt (Elt Ideal) (Rect.unit (s := S2x128x4x64) ![b.val, 0, 0, 0] S1x128x4x64.size inb).toLoadRect k (ix4 0 r h d) = k (ix4 b r h d) := by
  have h : (Rect.unit (s := S2x128x4x64) ![b.val, 0, 0, 0] S1x128x4x64.size inb).emb (ix4 0 r h d) = ix4 b r h d := by
    funext a; apply Fin.ext; rw [Rect.emb_apply]
    fin_cases a <;> simp
  exact congrArg k h
theorem readV (v : (cc0_stg3_0 : Ref sig .tc).ty.Contents (Elt Ideal)) (b : Fin 2) (inb) (r h d) :
    kvStgV.view.readAt (Elt Ideal) (Rect.unit (s := S2x128x4x64) ![b.val, 0, 0, 0] S1x128x4x64.size inb).toLoadRect v (ix4 0 r h d) = v (ix4 b r h d) :=
  readK v b inb r h d

theorem packed_k (k v) (b : Fin 2) (r : Fin 128) (h : Fin 4) (e : Fin 64) :
    packed (F := Ideal) k v b r ⟨64 * h.val + e.val, by omega⟩ = k (ix4 b r h e) := by
  have lt : 64 * h.val + e.val < 256 := by omega
  have eh : hd ⟨64 * h.val + e.val, lt⟩ = h := Fin.ext (Nat.div_eq_of_lt_le (by simp; omega) (by simp; omega))
  have el : lane ⟨64 * h.val + e.val, lt⟩ = e := Fin.ext (show (64 * h.val + e.val) % 64 = e.val by omega)
  unfold packed
  rw [dif_pos lt, pay5_eq]
  rcases (show b = 0 ∨ b = 1 by omega) with rfl | rfl
  · rw [if_pos (by rfl), pay2_apply, eh, el]; exact readK k 0 _ r h e
  · rw [if_neg (by decide), pay2_apply, eh, el]; exact readK k 1 _ r h e

theorem packed_v (k v) (b : Fin 2) (r : Fin 128) (h : Fin 4) (d : Fin 64) :
    packed (F := Ideal) k v b r ⟨256 + 64 * h.val + d.val, by omega⟩ = v (ix4 b r h d) := by
  have lt : 256 + 64 * h.val + d.val - 256 < 256 := by omega
  have eh : hd ⟨256 + 64 * h.val + d.val - 256, lt⟩ = h := Fin.ext (Nat.div_eq_of_lt_le (by simp; omega) (by simp; omega))
  have el : lane ⟨256 + 64 * h.val + d.val - 256, lt⟩ = d := Fin.ext (show (256 + 64 * h.val + d.val - 256) % 64 = d.val by omega)
  unfold packed
  rw [dif_neg (by simp; omega), pay3_eq, pay6_eq]
  rcases (show b = 0 ∨ b = 1 by omega) with rfl | rfl
  · rw [if_pos (by rfl), pay2_apply, eh, el]; exact readV v 0 _ r h d
  · rw [if_neg (by decide), pay2_apply, eh, el]; exact readV v 1 _ r h d

/-- The device whose keys slot `s` holds. -/
abbrev owner (s : Fin 2) : Dev nD := if s.val = 0 then c else pt c

theorem kv_k (s b : Fin 2) (r : Fin 128) (h : Fin 4) (e : Fin 64) :
    kvAll m ρ c (ix4 s b r ⟨64 * h.val + e.val, by omega⟩) = m (((owner c s : Dev nD) : Thread nD τ).loc main_arg2) (ix4 b r h e) := by
  refine (packed_k _ _ b r h e).trans ?_
  rw [kIn_eq]; rfl
theorem kv_v (s b : Fin 2) (r : Fin 128) (h : Fin 4) (d : Fin 64) :
    kvAll m ρ c (ix4 s b r ⟨256 + 64 * h.val + d.val, by omega⟩) = m (((owner c s : Dev nD) : Thread nD τ).loc main_arg3) (ix4 b r h d) := by
  refine (packed_v _ _ b r h d).trans ?_
  rw [vIn_eq]; rfl

/-! ## The whole arrays -/

/-- Where row `r` of device `c`'s block lies in the whole, -/
abbrev glob (c : Dev nD) (r : Fin 128) : Fin 512 := ⟨128 * c.val + r.val, by have : c.val < 4 := c.isLt; omega⟩
/-- and where key `j` of those at hand does. -/
def key (j : Fin 256) : Fin 512 := glob (owner c (slot j)) (row j)

theorem key_val (j : Fin 256) : (key c j).val = if j.val < 128 then 128 * c.val + j.val else 128 * ((c.val + 2) % 4) + (j.val - 128) := by
  have := j.isLt
  unfold key
  by_cases h : j.val < 128
  · rw [if_pos h]
    have e : owner c (slot j) = c := if_pos (by simp; omega)
    rw [e]; simp; omega
  · rw [if_neg h]
    have e : owner c (slot j) = pt c := if_neg (by simp; omega)
    rw [e]; simp [pt]; omega

theorem key_injective : Function.Injective (key c) := fun i j h => by
  have h' := congrArg Fin.val h
  rw [key_val, key_val] at h'
  have : c.val < 4 := c.isLt
  have := i.isLt; have := j.isLt
  apply Fin.ext
  split at h' <;> split at h' <;> omega

/-- A key at hand is seen as the kernel's mask says. -/
theorem sees_key (r : Fin 128) (j : Fin 256) : sees (glob c r) (key c j) ↔ seen (ix2 r j) = 1#1 := by
  rw [seen_iff, sees, key_val]
  have : c.val < 4 := c.isLt
  have := r.isLt; have := j.isLt
  show _ = (128 * c.val + r.val) / 64 % 4 ↔ _
  split <;> omega

/-- Every key that is seen is at hand. -/
theorem key_of_sees (r : Fin 128) (J : Fin 512) (h : sees (glob c r) J) : J ∈ Set.range (key c) := by
  have hc : c.val < 4 := c.isLt
  have hr := r.isLt; have hJ := J.isLt
  have h' : J.val / 64 % 4 = (128 * c.val + r.val) / 64 % 4 := h
  by_cases e : J.val / 128 = c.val
  · refine ⟨⟨J.val % 128, by omega⟩, Fin.ext ?_⟩
    rw [key_val, if_pos (by simp; omega)]
    show 128 * c.val + J.val % 128 = J.val
    omega
  · refine ⟨⟨128 + J.val % 128, by omega⟩, Fin.ext ?_⟩
    rw [key_val, if_neg (by simp)]
    show 128 * ((c.val + 2) % 4) + (128 + J.val % 128 - 128) = J.val
    omega

/-- Each device's arguments are its blocks of the whole arrays (a copy of `Wq` and `Wo`). -/
structure Cut (X : Acts) (W : Down) (K V : Spec.Heads) (O : Up) : Prop where
  x : ∀ (c : Dev nD) (b r i), m ((c : Thread nD τ).loc main_arg0) (ix3 b r i) = X (ix3 b (glob c r) i)
  wq : ∀ (c : Dev nD) (i t), m ((c : Thread nD τ).loc main_arg1) (ix2 i t) = W (ix2 i t)
  k : ∀ (c : Dev nD) (b r h e), m ((c : Thread nD τ).loc main_arg2) (ix4 b r h e) = K (ix4 b (glob c r) h e)
  v : ∀ (c : Dev nD) (b r h d), m ((c : Thread nD τ).loc main_arg3) (ix4 b r h d) = V (ix4 b (glob c r) h d)
  wo : ∀ (c : Dev nD) (t n), m ((c : Thread nD τ).loc main_arg4) (ix2 t n) = O (ix2 t n)

variable {X : Acts} {W : Down} {K V : Spec.Heads} {O : Up}

theorem query_eq (H : Cut m X W K V O) (b : Fin 2) (r : Fin 128) (t : Fin 256) :
    queries m ρ c (ix2 (row2 b r) t) = query X W b (glob c r) t * ((1 / 8 : ℝ) : EReal) := by
  refine (queries_apply m ρ c _ _ (xIn_eq m ρ c) (wqIn_eq m ρ c) b r t).trans ?_
  refine congrArg (· * ((1 / 8 : ℝ) : EReal)) (Finset.sum_congr rfl fun i _ => ?_)
  exact congrArg₂ (· * ·) (H.x c b r i) (H.wq c i t)

/-- A head of the kernel is a head of the specification. -/
theorem head_eq (H : Cut m X W K V O) (b : Fin 2) (h : Fin 4) (r : Fin 128) (d : Fin 64) :
    head m ρ c b h r d = context X W K V b h (glob c r) d := by
  unfold head context
  rw [attend_reindex (key c) (key_injective c) (fun J hJ => key_of_sees c r J hJ)]
  congr 1
  · refine masked_congr (fun j => (sees_key c r j).symm) fun j => ?_
    unfold score
    rw [sum_mul_coe _ (by norm_num)]
    refine Finset.sum_congr rfl fun e _ => ?_
    rw [query_eq m ρ c H, kv_k, H.k, mul_right_comm]
    rfl
  · funext j
    rw [kv_v, H.v]
    rfl

/-- The kernel's result is the specified function at the device's rows. -/
theorem outAt_result (H : Cut m X W K V O) (b : Fin 2) (r : Fin 128) (n : Fin 512) :
    outAt m ρ c (ix3 b r n) = result X W K V O b (glob c r) n := by
  have e : ∀ t : Fin 256, woIn m ρ c (ix2 t n) = O (ix2 t n) := fun t => by rw [woIn_eq]; exact H.wo c t n
  refine (outAt_apply m ρ c b r n).trans (Finset.sum_congr (M := EReal) rfl fun t _ => ?_)
  exact congrArg₂ (· * · : EReal → EReal → EReal) (head_eq m ρ c H b (hd t) r (lane t)) (e t)

end Cert.Heads

end
-- ==== Proof.ReferenceValue.lean ====
/-
# The reference computes the specified function

The reference's operations in stages, each read at an index. Its masked scores are real or `⊥`, every row sees itself, so that
the largest score of a row is real and the weights are those of the specification.
-/
module

public import proofs.«01_k».proof.Proof.Gen.ReferenceIdeal
public import proofs.«01_k».proof.Proof.Gen.ReferenceIdeal.Run
public import proofs.«01_k».proof.Proof.Spec
public import proofs.«01_k».proof.Proof.Consts
public import Idealize.ShloMosaic.Lib.Pointwise

@[expose] public section

noncomputable section

namespace Cert.Plain

open Cert.ReferenceIdeal Cert.ReferenceIdeal.Gen
open Idealize.ShloMosaic Cert.Softmax Cert.Spec

/-! ## The reference, stage by stage -/

/-- A word splatted over the 512 positions. -/
abbrev all512 (x : IVec S_ 32) : IVec S512 32 := broadcastInDim S512 ![] bcast_S_S512 x
abbrev word (w : BitVec 32) : IVec S_ 32 := constantI S_ 32 w

/-- Each position's block: the position over 64, rounded down. -/
def blocks : IVec S512 32 :=
  have q : IVec S512 32 := Host.divsi (iotaInDim S512 32 0) (all512 (id (word 64#32)))
  select (andi (cmpi .ne (signi (iotaInDim S512 32 0)) (all512 (signi (id (word 64#32)))))
      (cmpi .ne (Host.remsi (iotaInDim S512 32 0) (all512 (id (word 64#32)))) (all512 (word 0#32))))
    (subi q (all512 (word 1#32))) q

/-- The blocks as a column and as a row, -/
abbrev asCol : IVec S512x1 32 := broadcastInDim S512x1 ![0] bcast_S512_S512x1_0 blocks
abbrev asRow : IVec S1x512 32 := broadcastInDim S1x512 ![1] bcast_S512_S1x512_1 blocks
/-- the divisor 4, kept from being zero, -/
abbrev four : IVec S_ 32 := select (cmpi .eq (id (word 4#32)) (word 0#32)) (word 1#32) (id (word 4#32))
/-- and the blocks modulo it. -/
def colMod : IVec S512x1 32 :=
  have d : IVec S512x1 32 := broadcastInDim S512x1 ![] bcast_S_S512x1 four
  have z : IVec S512x1 32 := broadcastInDim S512x1 ![] bcast_S_S512x1 (word 0#32)
  have r : IVec S512x1 32 := Host.remsi asCol d
  select (andi (cmpi .ne (cmpi .slt r z) (broadcastInDim S512x1 ![] bcast_S_S512x1 (cmpi .slt four (word 0#32)))) (cmpi .ne r z)) (addi r d) r
def rowMod : IVec S1x512 32 :=
  have d : IVec S1x512 32 := broadcastInDim S1x512 ![] bcast_S_S1x512 four
  have z : IVec S1x512 32 := broadcastInDim S1x512 ![] bcast_S_S1x512 (word 0#32)
  have r : IVec S1x512 32 := Host.remsi asRow d
  select (andi (cmpi .ne (cmpi .slt r z) (broadcastInDim S1x512 ![] bcast_S_S1x512 (cmpi .slt four (word 0#32)))) (cmpi .ne r z)) (addi r d) r

/-- The block mask, -/
def mask : IVec S512x512 1 :=
  ori (cmpi .eq (broadcastInDim S512x512 ![0, 1] bcast_S512x1_S512x512_0_1 asCol) (broadcastInDim S512x512 ![0, 1] bcast_S1x512_S512x512_0_1 asRow))
    (cmpi .eq (broadcastInDim S512x512 ![0, 1] bcast_S1x512_S512x512_0_1 rowMod) (broadcastInDim S512x512 ![0, 1] bcast_S512x1_S512x512_0_1 colMod))
/-- and which rows see any key. -/
def rowKeep : IVec S512 1 := Host.reduce IntOp.ori mask (constantI S_ 1 0#1) reducesTo_S512x512_S512_d1 h_S_

/-- The queries of all heads, -/
def queries (x : FVec Ideal S2x512x512 .bf16) (w : FVec Ideal S512x256 .bf16) : FVec Ideal S2x512x4x64 .bf16 :=
  shapeCast S2x512x4x64 (truncf .bf16 (Host.dotGeneral dot_S2x512x512_S512x256_S2x512x256_2_0_01_1_n_n none (extf .f32 x bitsLt_bf16_f32) (extf .f32 w bitsLt_bf16_f32)) bitsLt_bf16_f32) shapeCasts_S2x512x256_S2x512x4x64
/-- the masked scores, -/
def scores (q k : FVec Ideal S2x512x4x64 .bf16) : FVec Ideal S2x4x512x512 .f32 :=
  select (broadcastInDim S2x4x512x512 ![0, 1, 2, 3] bcast_S1x1x512x512_S2x4x512x512_0_1_2_3 (broadcastInDim S1x1x512x512 ![2, 3] bcast_S512x512_S1x1x512x512_2_3 mask))
    (mulf (extf .f32 (truncf .bf16 (Host.dotGeneral (φ₁ := .f32) (φ₂ := .f32) dot_S2x512x4x64_S2x512x4x64_S2x4x512x512_3_3_1_1_02_02 none (extf .f32 q bitsLt_bf16_f32) (extf .f32 k bitsLt_bf16_f32)) bitsLt_bf16_f32) bitsLt_bf16_f32)
      (broadcastInDim S2x4x512x512 ![] bcast_S_S2x4x512x512 (constant S_ .f32 0x3E000000#32)))
    (broadcastInDim S2x4x512x512 ![] bcast_S_S2x4x512x512 (id (constant S_ .f32 0xFF800000#32)))
/-- each row's largest, -/
def tops (s : FVec Ideal S2x4x512x512 .f32) : FVec Ideal S2x4x512 .f32 :=
  Host.reduce FloatOps.maximumf s (constant S_ .f32 0xFF800000#32) reducesTo_S2x4x512x512_S2x4x512_d3 h_S_
/-- the exponentials of what each score is below it, -/
def lowered (s : FVec Ideal S2x4x512x512 .f32) : FVec Ideal S2x4x512x512 .f32 :=
  Host.exp (subf s (broadcastInDim S2x4x512x512 ![0, 1, 2, 3] bcast_S2x4x512x1_S2x4x512x512_0_1_2_3 (broadcastInDim S2x4x512x1 ![0, 1, 2] bcast_S2x4x512_S2x4x512x1_0_1_2 (tops s))))
abbrev keepCol : IVec S1x1x512x1 1 := broadcastInDim S1x1x512x1 ![2] bcast_S512_S1x1x512x1_2 rowKeep
/-- the weights, -/
def weights (p : FVec Ideal S2x4x512x512 .f32) : FVec Ideal S2x4x512x512 .f32 :=
  select (broadcastInDim S2x4x512x512 ![0, 1, 2, 3] bcast_S1x1x512x1_S2x4x512x512_0_1_2_3 keepCol)
    (Host.divf p (broadcastInDim S2x4x512x512 ![0, 1, 2, 3] bcast_S2x4x512x1_S2x4x512x512_0_1_2_3
      (select (broadcastInDim S2x4x512x1 ![0, 1, 2, 3] bcast_S1x1x512x1_S2x4x512x1_0_1_2_3 keepCol)
        (broadcastInDim S2x4x512x1 ![0, 1, 2] bcast_S2x4x512_S2x4x512x1_0_1_2 (Host.reduceAdd p (constant S_ .f32 0x00000000#32) reducesTo_S2x4x512x512_S2x4x512_d3 h_S_))
        (broadcastInDim S2x4x512x1 ![] bcast_S_S2x4x512x1 (id (constant S_ .f32 0x3F800000#32))))))
    (broadcastInDim S2x4x512x512 ![] bcast_S_S2x4x512x512 (id (constant S_ .f32 0x00000000#32)))
/-- the context, -/
def contexts (v : FVec Ideal S2x512x4x64 .bf16) (w : FVec Ideal S2x4x512x512 .f32) : FVec Ideal S2x512x256 .f32 :=
  shapeCast S2x512x256 (transpose S2x512x4x64 [0, 3, 1, 2] (Host.dotGeneral (φ₁ := .f32) (φ₂ := .f32) dot_S2x512x4x64_S2x4x512x512_S2x4x64x512_1_3_3_2_02_01 none (extf .f32 v bitsLt_bf16_f32) w)
    transposes_S2x4x64x512_S2x512x4x64_0_3_1_2) shapeCasts_S2x512x4x64_S2x512x256
/-- and the result. -/
def project (c : FVec Ideal S2x512x256 .f32) (o : FVec Ideal S256x512 .bf16) : FVec Ideal S2x512x512 .f32 :=
  Host.dotGeneral (φ₁ := .f32) (φ₂ := .f32) dot_S2x512x256_S256x512_S2x512x512_2_0_01_1_n_n none c (extf .f32 o bitsLt_bf16_f32)

variable (m : (ℓ : Loc nD τ sig) → Buf (Elt Ideal) ℓ) (c : Dev nD)

/-- What the reference's run leaves is these stages in turn. -/
theorem res_eq : Value.res_main_v48 m c
    = project (contexts (m ((c.tc : Thread nD τ).loc main_arg3)) (weights (lowered (scores
        (queries (m ((c.tc : Thread nD τ).loc main_arg0)) (m ((c.tc : Thread nD τ).loc main_arg1))) (m ((c.tc : Thread nD τ).loc main_arg2))))))
      (m ((c.tc : Thread nD τ).loc main_arg4)) := rfl

theorem blocks_apply (R : Fin 512) : blocks (ix1 R) = BitVec.ofNat 32 (R.val / 64) := by
  pointwise [blocks, all512, word]
  revert R; decide +kernel

theorem colMod_apply (R : Fin 512) (z : Fin 1) : colMod (ix2 R z) = BitVec.ofNat 32 (R.val / 64 % 4) := by
  pointwise [colMod, blocks_apply]
  revert R; decide +kernel
theorem rowMod_apply (J : Fin 512) (z : Fin 1) : rowMod (ix2 z J) = BitVec.ofNat 32 (J.val / 64 % 4) := by
  pointwise [rowMod, blocks_apply]
  revert J; decide +kernel
/-- The mask sees what `sees` says: equal blocks are equal modulo 4. -/
theorem mask_apply (R J : Fin 512) : mask (ix2 R J) = 1#1 ↔ sees R J := by
  pointwise [mask, blocks_apply, colMod_apply, rowMod_apply]
  have h : ∀ a b : Fin 8, IntOp.ori (IntOp.cmpi .eq (BitVec.ofNat 32 a.val) (BitVec.ofNat 32 b.val))
      (IntOp.cmpi .eq (BitVec.ofNat 32 (b.val % 4)) (BitVec.ofNat 32 (a.val % 4))) = 1#1 ↔ b.val % 4 = a.val % 4 := by decide
  exact h ⟨R.val / 64, by omega⟩ ⟨J.val / 64, by omega⟩
/-- Every row sees itself. -/
theorem rowKeep_apply (R : Fin 512) : rowKeep (ix1 R) = 1#1 := by
  pointwise [rowKeep]
  refine ((Finset.fold_op_rel_iff_or (r := fun _ y => y = 1#1) (c := 0#1) (fun {x y z} => ?_)).2 (.inr ⟨R, Finset.mem_univ R, (mask_apply R R).2 rfl⟩))
  revert y z; decide

theorem queries_apply (x : FVec Ideal S2x512x512 .bf16) (w : FVec Ideal S512x256 .bf16) (b : Fin 2) (R : Fin 512) (h : Fin 4) (e : Fin 64) :
    queries x w (ix4 b R h e) = query x w b R (at256 h e) := by
  pointwise [queries]
  have : (⟨h.val * 64 + e.val, by omega⟩ : Fin 256) = at256 h e := Fin.ext (by simp; omega)
  rw [this]; rfl
theorem scores_apply (q k : FVec Ideal S2x512x4x64 .bf16) (b : Fin 2) (h : Fin 4) (R J : Fin 512) : scores q k (ix4 b h R J)
    = masked (sees R) (fun J => (∑ e : Fin 64, q (ix4 b R h e) * k (ix4 b J h e)) * ((1 / 8 : ℝ) : EReal)) J := by
  pointwise [scores]
  have e : (id (constant (F := Ideal) S_ .f32 0xFF800000#32) ix0 : EReal) = ⊥ := Consts.least
  rw [e, Consts.eighth]
  exact if_congr (mask_apply R J) rfl rfl
theorem lowered_apply (s : FVec Ideal S2x4x512x512 .f32) (b : Fin 2) (h : Fin 4) (R J : Fin 512) : lowered s (ix4 b h R J)
    = Ideal.exp (s (ix4 b h R J) - Finset.univ.fold max ⊥ fun J => s (ix4 b h R J)) := by
  pointwise [lowered, tops]
  rw [Consts.least]
theorem weights_apply (p : FVec Ideal S2x4x512x512 .f32) (b : Fin 2) (h : Fin 4) (R J : Fin 512) : weights p (ix4 b h R J)
    = Ideal.div (p (ix4 b h R J)) (∑ J, p (ix4 b h R J)) := by
  pointwise [weights, rowKeep_apply]
theorem contexts_apply (v : FVec Ideal S2x512x4x64 .bf16) (w : FVec Ideal S2x4x512x512 .f32) (b : Fin 2) (R : Fin 512) (t : Fin 256) :
    contexts v w (ix3 b R t) = ∑ J : Fin 512, v (ix4 b J (hd t) (lane t)) * w (ix4 b (hd t) R J) := by
  pointwise [contexts]
theorem project_apply (c : FVec Ideal S2x512x256 .f32) (o : FVec Ideal S256x512 .bf16) (b : Fin 2) (R n : Fin 512) :
    project c o (ix3 b R n) = ∑ t : Fin 256, c (ix3 b R t) * o (ix2 t n) := by
  pointwise [project]

/-! ## The reference computes the specified function -/

theorem query_real {X : Acts} {W : Down} (hX : Reals X) (hW : Reals W) (b : Fin 2) (R : Fin 512) (t : Fin 256) :
    ∃ r : ℝ, query X W b R t = (r : EReal) := by
  choose x hx using hX
  choose w hw using hW
  refine ⟨∑ i : Fin 512, x (ix3 b R i) * w (ix2 i t), ?_⟩
  rw [query, ← sum_coe]
  exact Finset.sum_congr rfl fun i _ => by rw [hx, hw, EReal.coe_mul]

theorem score_real {X : Acts} {W : Down} {K : Spec.Heads} (hX : Reals X) (hW : Reals W) (hK : Reals K) (b : Fin 2) (h : Fin 4) (R J : Fin 512) :
    ∃ r : ℝ, score X W K b h R J = (r : EReal) := by
  choose q hq using query_real hX hW b R
  choose k hk using hK
  refine ⟨(∑ e : Fin 64, q (at256 h e) * k (ix4 b J h e)) * (1 / 8), ?_⟩
  rw [score, EReal.coe_mul, ← sum_coe]
  exact congrArg (· * _) (Finset.sum_congr rfl fun e _ => by rw [hq, hk, EReal.coe_mul])

/-- At real scores the reference's context is the specified one. -/
theorem context_eq (x : FVec Ideal S2x512x512 .bf16) (w : FVec Ideal S512x256 .bf16) (k v : FVec Ideal S2x512x4x64 .bf16)
    (hX : Reals x) (hW : Reals w) (hK : Reals k) (b : Fin 2) (R : Fin 512) (t : Fin 256) :
    contexts v (weights (lowered (scores (queries x w) k))) (ix3 b R t) = context x w k v b (hd t) R (lane t) := by
  choose σ hσ using score_real hX hW hK b (hd t) R
  have hs : ∀ J, scores (queries x w) k (ix4 b (hd t) R J) = masked (sees R) (fun J => (σ J : EReal)) J := fun J => by
    rw [scores_apply]
    refine congrFun (masked_congr (fun _ => Iff.rfl) fun J => ?_) J
    rw [← hσ, score]
    simp only [queries_apply]
  obtain ⟨M, hM⟩ := fold_max_real (keep := sees R) σ ⟨R, rfl⟩
  rw [contexts_apply, context, show score x w k b (hd t) R = fun J => (σ J : EReal) from funext hσ, ← attendBy_eq (keep := sees R) σ _ M ⟨R, rfl⟩]
  unfold attendBy
  refine Finset.sum_congr rfl fun J _ => ?_
  rw [weights_apply]
  simp only [lowered_apply, hs, hM]

/-- The reference's result is the specified function where `x`, `Wq` and `K_ext` are real. -/
theorem res_result (hX : Reals (m ((c.tc : Thread nD τ).loc main_arg0))) (hW : Reals (m ((c.tc : Thread nD τ).loc main_arg1)))
    (hK : Reals (m ((c.tc : Thread nD τ).loc main_arg2))) (b : Fin 2) (R n : Fin 512) :
    Value.res_main_v48 m c (ix3 b R n) = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) b R n := by
  rw [res_eq]
  refine (project_apply _ _ b R n).trans (Finset.sum_congr rfl fun t _ => ?_)
  exact congrArg₂ (· * · : EReal → EReal → EReal) (context_eq _ _ _ _ hX hW hK b R t) rfl

end Cert.Plain

end
-- ==== Proof.Algebraic.lean ====
/-
# The kernel computes the reference

The precondition makes the entries of `x`, `Wq` and `K_ext` real. The devices' blocks are then the blocks of the whole arrays,
and each device's result is the block of the reference's: both are the specified function of the whole arrays.
-/
module

public import proofs.«01_k».proof.Defs
public import proofs.«01_k».proof.Proof.Gen.Pre_finite_KernelIdeal
public import proofs.«01_k».proof.Proof.Frames
public import proofs.«01_k».proof.Proof.KernelValue
public import proofs.«01_k».proof.Proof.ReferenceValue
public import Idealize.ShloMosaic.Lib.ReduceAll

@[expose] public section

noncomputable section

namespace Cert.Equal

open Idealize.ShloMosaic Idealize.ShloMosaic.TcCoe
open Idealize.SL.Sem
open Cert.Spec Cert.Heads Cert.Exchange

/-! ## The precondition -/

/-- An extended real of magnitude below `⊤` is real. -/
theorem real_of_lt {x : EReal} (h : BitVec.ofBool (decide (max x (-x) < ⊤)) = 1#1) : ∃ r : ℝ, x = r := by
  have h' : max x (-x) < ⊤ := by
    by_contra hn
    rw [decide_eq_false hn] at h
    exact absurd h (by decide)
  induction x using EReal.rec with
  | bot => exact absurd h' (by simp)
  | top => exact absurd h' (by simp)
  | coe r => exact ⟨r, rfl⟩

/-- A precondition's `all(abs(x) < inf)` says that the entries are real. -/
theorem reals_of_all {s : Shape} {axes : List (Fin s.rank)} (x : FVec Ideal s .bf16)
    (hb : Shape.BroadcastsInDim ⟨0, ![]⟩ s (![] : Fin 0 → Fin s.rank)) (init : IVec ⟨0, ![]⟩ 1) (h : s.ReducesTo axes ⟨0, ![]⟩)
    (hu : 0 < Shape.numel ⟨0, ![]⟩) (j : Shape.Idx ⟨0, ![]⟩)
    (e : Host.reduce IntOp.andi (cmpf .olt (Host.absf x) (broadcastInDim s ![] hb (constant (F := Ideal) ⟨0, ![]⟩ .bf16 0x7F80#16))) init h hu j = 1#1) :
    Reals x := fun i => by
  have hi : BitVec.ofBool (decide (max (x i) (-(x i)) < Ideal.ofBits .bf16 0x7F80#16)) = 1#1 := by
    haveI : Subsingleton (Shape.Idx ⟨0, ![]⟩) := ⟨fun a b => funext fun k => k.elim0⟩
    exact Host.reduce_andi_all _ init h hu j e i
  rw [Consts.greatest] at hi
  exact real_of_lt hi

variable (m : (ℓ : Loc Cert.KernelIdeal.nD Cert.KernelIdeal.τ Cert.KernelIdeal.sig) → Buf (Elt Ideal) ℓ)

/-- Under the precondition each device's `x`, `Wq` and `K_ext` are real. -/
theorem reals (H : Cert.Pre_KernelIdeal_finite_KernelIdeal m) (c : Dev Cert.KernelIdeal.nD) :
    Reals (s := ⟨3, ![2, 128, 512]⟩) (m ((c.tc : Thread Cert.KernelIdeal.nD Cert.KernelIdeal.τ).loc Cert.KernelIdeal.main_arg0))
    ∧ Reals (s := ⟨2, ![512, 256]⟩) (m ((c.tc : Thread Cert.KernelIdeal.nD Cert.KernelIdeal.τ).loc Cert.KernelIdeal.main_arg1))
    ∧ Reals (s := ⟨4, ![2, 128, 4, 64]⟩) (m ((c.tc : Thread Cert.KernelIdeal.nD Cert.KernelIdeal.τ).loc Cert.KernelIdeal.main_arg2)) := by
  have h := congrFun (H c) (fun k => k.elim0)
  obtain ⟨h01, h2⟩ := IntOp.andi_eq_one.1 h
  obtain ⟨h0, h1⟩ := IntOp.andi_eq_one.1 h01
  exact ⟨reals_of_all _ _ _ _ _ _ h0, reals_of_all _ _ _ _ _ _ h1, reals_of_all _ _ _ _ _ _ h2⟩

/-! ## The blocks -/

/-- The device whose block has position `R`, and the row there. -/
abbrev dev (R : Fin 512) : Dev Cert.KernelIdeal.nD := ⟨R.val / 128, by change R.val / 128 < 4; omega⟩
abbrev loc (R : Fin 512) : Fin 128 := ⟨R.val % 128, by omega⟩

theorem glob_loc (R : Fin 512) : glob (dev R) (loc R) = R := Fin.ext (Nat.div_add_mod R.val 128)

/-- A block of an array of three axes, -/
theorem block3 (c : Dev Cert.KernelIdeal.nD) (X : Acts) (b : Fin 2) (r : Fin 128) (i : Fin 512) :
    Layout.block ⟨3, ![2, 128, 512]⟩ ⟨3, ![2, 512, 512]⟩ 1 4 c X (by decide) (ix3 b r i) = X (ix3 b (glob c r) i) := by
  rw [Layout.block_apply]
  refine congrArg X (funext fun a => Fin.ext ?_)
  rw [Layout.Tiles.idx_val]
  match a with
  | 0 => rfl
  | 1 => exact congrArg (· + r.val) (Nat.mul_comm _ _)
  | 2 => rfl

/-- and of four. -/
theorem block4 (c : Dev Cert.KernelIdeal.nD) (K : Spec.Heads) (b : Fin 2) (r : Fin 128) (h : Fin 4) (e : Fin 64) :
    Layout.block ⟨4, ![2, 128, 4, 64]⟩ ⟨4, ![2, 512, 4, 64]⟩ 1 4 c K (by decide) (ix4 b r h e) = K (ix4 b (glob c r) h e) := by
  rw [Layout.block_apply]
  refine congrArg K (funext fun a => Fin.ext ?_)
  rw [Layout.Tiles.idx_val]
  match a with
  | 0 => rfl
  | 1 => exact congrArg (· + r.val) (Nat.mul_comm _ _)
  | 2 => rfl
  | 3 => rfl

/-- An array is real if its blocks are, -/
theorem reals3 (X : Acts) (h : ∀ c : Dev Cert.KernelIdeal.nD, Reals (Layout.block ⟨3, ![2, 128, 512]⟩ ⟨3, ![2, 512, 512]⟩ 1 4 c X)) :
    Reals X := fun i => by
  obtain ⟨b, R, n, rfl⟩ : ∃ (b : Fin 2) (R n : Fin 512), i = ix3 b R n := ⟨i 0, i 1, i 2, (ix3_eta i).symm⟩
  obtain ⟨x, e⟩ := h (dev R) (ix3 b (loc R) n)
  exact ⟨x, by rw [← e, block3, glob_loc]⟩

/-- also one of four axes. -/
theorem reals4 (K : Spec.Heads) (h : ∀ c : Dev Cert.KernelIdeal.nD, Reals (Layout.block ⟨4, ![2, 128, 4, 64]⟩ ⟨4, ![2, 512, 4, 64]⟩ 1 4 c K)) :
    Reals K := fun i => by
  obtain ⟨b, R, g, e, rfl⟩ : ∃ (b : Fin 2) (R : Fin 512) (g : Fin 4) (e : Fin 64), i = ix4 b R g e := ⟨i 0, i 1, i 2, i 3, (ix4_eta i).symm⟩
  obtain ⟨x, hx⟩ := h (dev R) (ix4 b (loc R) g e)
  exact ⟨x, by rw [← hx, block4, glob_loc]⟩

/-- A device's result is the block of an array that has the specified entries. -/
theorem out_block (ρ : Dev Cert.KernelIdeal.nD → PrngReg) (c : Dev Cert.KernelIdeal.nD) {X : Acts} {W : Down} {K V : Spec.Heads} {O : Up}
    (H : Cut m X W K V O) (v : Acts) (hv : ∀ b R n, v (ix3 b R n) = result X W K V O b R n) :
    outAt m ρ c = Layout.block ⟨3, ![2, 128, 512]⟩ ⟨3, ![2, 512, 512]⟩ 1 4 c v := funext fun (i : Shape.Idx ⟨3, ![2, 128, 512]⟩) => by
  obtain ⟨b, r, n, rfl⟩ : ∃ (b : Fin 2) (r : Fin 128) (n : Fin 512), i = ix3 b r n := ⟨i 0, i 1, i 2, (ix3_eta i).symm⟩
  rw [block3, hv]
  exact outAt_result m ρ c H b r n

/-! ## The claim -/

theorem algebraic : Cert.algebraic_KernelIdeal_ReferenceIdeal_pre_finite_KernelIdeal := fun m g m' g' hp hm => by
  have hr := reals m hp
  have H : Cut m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c b r i => (congrFun (hm c).1 (ix3 b r i)).trans (block3 c _ b r i)
      wq := fun c i t => congrFun (hm c).2.1 (ix2 i t)
      k := fun c b r h e => (congrFun (hm c).2.2.1 (ix4 b r h e)).trans (block4 c _ b r h e)
      v := fun c b r h e => (congrFun (hm c).2.2.2.1 (ix4 b r h e)).trans (block4 c _ b r h e)
      wo := fun c t n => congrFun (hm c).2.2.2.2 (ix2 t n) }
  have hv := Plain.res_result m' 0 (reals3 _ fun c => (hm c).1 ▸ (hr c).1) ((hm 0).2.1 ▸ (hr 0).2.1)
    (reals4 _ fun c => (hm c).2.2.1 ▸ (hr c).2.2)
  refine ⟨Cert.ReferenceIdeal.Value.res_main_v48 m' 0, ?_, ?_⟩
  · exact (θ_run _ _ _).mono (fun r h c => ⟨(h.1 c).trans (out_block m g c H _ hv), h.2.1 c⟩) (run_ends (F := Ideal) m g)
  · exact (θ_run _ _ _).mono (fun r h => h 0) (Cert.ReferenceIdeal.Value.run (F := Ideal) m' g')

end Cert.Equal

end
-- ==== Proof.lean ====
/- The certificate: the claims of `Cert.Claim`, each proved in a module of its own. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Reference
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    Cert.Exchange.frame_kernel,
    Cert.Exchange.frame_ideal, fun m g _ => Cert.Exchange.frame_ideal m g trivial,
    Cert.Plain.frame_reference, fun m g _ => Cert.Plain.frame_reference m g trivial,
    IdealRules.named_const.statement Cert.KernelIdeal.κ "mask" .f32 0xCE6E6B28#32 ⊥ rfl,
    Cert.Equal.algebraic⟩

end Cert.Proof

end
